-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S3x256x1024 : Shape := ⟨3, ![3, 256, 1024]⟩
abbrev S3 : Shape := ⟨1, ![3]⟩
abbrev S6 : Shape := ⟨1, ![6]⟩
abbrev S_ : Shape := ⟨0, ![]⟩
abbrev S256x1024 : Shape := ⟨2, ![256, 1024]⟩
abbrev S1x256x1024 : Shape := ⟨3, ![1, 256, 1024]⟩
abbrev S1 : Shape := ⟨1, ![1]⟩
abbrev S64x1024 : Shape := ⟨2, ![64, 1024]⟩
abbrev S1x64x1024 : Shape := ⟨3, ![1, 64, 1024]⟩
abbrev S32x1024 : Shape := ⟨2, ![32, 1024]⟩
abbrev S1x32x1024 : Shape := ⟨3, ![1, 32, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .local _ .vmem, ⟨0, _⟩ => ⟨S2048x1024, .bf16⟩
  | .local _ .vmem, ⟨1, _⟩ => ⟨S2048x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S3x256x1024, .bf16⟩
  | .local _ .vmem, ⟨5, _⟩ => ⟨S3x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 13 14 bufScoped semScoped dmaSemScoped tileCredit tileCredit_eq_zero tileCredit_pos).withBarriers [(0, 12)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 12

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c4_i32_12 : BitVec 32 := 4#32
  let v24 : BitVec 32 := Scalar.muli v21 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v28 : BitVec 32 := Scalar.addi v8 c1_i32_14
  let c4_i32_15 : BitVec 32 := 4#32
  let c0_i32_16 : BitVec 32 := 0#32
  let v29 : BitVec 1 := Scalar.cmpi .eq c4_i32_15 c0_i32_16
  let c1_i32_17 : BitVec 32 := 1#32
  let v30 : BitVec 32 := Scalar.select v29 c1_i32_17 c4_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_25 : BitVec 32 := 1#32
  let v43 : BitVec 32 := Scalar.muli v38 c1_i32_25
  let v44 : BitVec 32 := Scalar.addi v42 v43
  v44.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v56 : BitVec 32 := Scalar.muli v2 c16_i32_34
  let v57 : BitVec 32 := Scalar.addi c0_i32_35 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_26 : BitVec 32 := 2#32
  let v45 : BitVec 32 := Scalar.addi v5 c2_i32_26
  let c4_i32_27 : BitVec 32 := 4#32
  let c0_i32_28 : BitVec 32 := 0#32
  let v46 : BitVec 1 := Scalar.cmpi .eq c4_i32_27 c0_i32_28
  let c1_i32_29 : BitVec 32 := 1#32
  let v47 : BitVec 32 := Scalar.select v46 c1_i32_29 c4_i32_27
  let v48 : BitVec 32 := Scalar.remsi v45 v47
  let c0_i32_31 : BitVec 32 := 0#32
  let v50 : BitVec 1 := Scalar.cmpi .slt v48 c0_i32_31
  let c0_i32_32 : BitVec 32 := 0#32
  let v51 : BitVec 1 := Scalar.cmpi .slt v47 c0_i32_32
  let v52 : BitVec 1 := Scalar.xori v50 v51
  let c0_i32_30 : BitVec 32 := 0#32
  let v49 : BitVec 1 := Scalar.cmpi .ne v48 c0_i32_30
  let v53 : BitVec 1 := Scalar.andi v52 v49
  let v54 : BitVec 32 := Scalar.addi v48 v47
  let v55 : BitVec 32 := Scalar.select v53 v54 v48
  let c4_i32_36 : BitVec 32 := 4#32
  let v58 : BitVec 32 := Scalar.muli v55 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v60 : BitVec 32 := Scalar.muli v8 c1_i32_37
  let v61 : BitVec 32 := Scalar.addi v59 v60
  v61.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v73 : BitVec 32 := Scalar.muli v2 c16_i32_46
  let v74 : BitVec 32 := Scalar.addi c0_i32_47 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v75 : BitVec 32 := Scalar.muli v5 c4_i32_48
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_38 : BitVec 32 := 2#32
  let v62 : BitVec 32 := Scalar.addi v8 c2_i32_38
  let c4_i32_39 : BitVec 32 := 4#32
  let c0_i32_40 : BitVec 32 := 0#32
  let v63 : BitVec 1 := Scalar.cmpi .eq c4_i32_39 c0_i32_40
  let c1_i32_41 : BitVec 32 := 1#32
  let v64 : BitVec 32 := Scalar.select v63 c1_i32_41 c4_i32_39
  let v65 : BitVec 32 := Scalar.remsi v62 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c1_i32_49 : BitVec 32 := 1#32
  let v77 : BitVec 32 := Scalar.muli v72 c1_i32_49
  let v78 : BitVec 32 := Scalar.addi v76 v77
  v78.toNat
def k0_dev5 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v90 : BitVec 32 := Scalar.muli v2 c16_i32_57
  let v91 : BitVec 32 := Scalar.addi c0_i32_58 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v79 : BitVec 32 := Scalar.addi v5 c3_i32
  let c4_i32_50 : BitVec 32 := 4#32
  let c0_i32_51 : BitVec 32 := 0#32
  let v80 : BitVec 1 := Scalar.cmpi .eq c4_i32_50 c0_i32_51
  let c1_i32_52 : BitVec 32 := 1#32
  let v81 : BitVec 32 := Scalar.select v80 c1_i32_52 c4_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c4_i32_59 : BitVec 32 := 4#32
  let v92 : BitVec 32 := Scalar.muli v89 c4_i32_59
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v94 : BitVec 32 := Scalar.muli v8 c1_i32_60
  let v95 : BitVec 32 := Scalar.addi v93 v94
  v95.toNat
def k0_dev6 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v107 : BitVec 32 := Scalar.muli v2 c16_i32_69
  let v108 : BitVec 32 := Scalar.addi c0_i32_70 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v109 : BitVec 32 := Scalar.muli v5 c4_i32_71
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_61 : BitVec 32 := 3#32
  let v96 : BitVec 32 := Scalar.addi v8 c3_i32_61
  let c4_i32_62 : BitVec 32 := 4#32
  let c0_i32_63 : BitVec 32 := 0#32
  let v97 : BitVec 1 := Scalar.cmpi .eq c4_i32_62 c0_i32_63
  let c1_i32_64 : BitVec 32 := 1#32
  let v98 : BitVec 32 := Scalar.select v97 c1_i32_64 c4_i32_62
  let v99 : BitVec 32 := Scalar.remsi v96 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c1_i32_72 : BitVec 32 := 1#32
  let v111 : BitVec 32 := Scalar.muli v106 c1_i32_72
  let v112 : BitVec 32 := Scalar.addi v110 v111
  v112.toNat
def k0_off1 (d0 : Dev nD) (c0_i32_169 : BitVec 32) (c4_i32_0 : BitVec 32) (c1_i32_161 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let v257 : BitVec 32 := Scalar.addi v5 c1_i32_161
  let c4_i32_162 : BitVec 32 := 4#32
  let c0_i32_163 : BitVec 32 := 0#32
  let v258 : BitVec 1 := Scalar.cmpi .eq c4_i32_162 c0_i32_163
  let c1_i32_164 : BitVec 32 := 1#32
  let v259 : BitVec 32 := Scalar.select v258 c1_i32_164 c4_i32_162
  let v260 : BitVec 32 := Scalar.remsi v257 v259
  let c0_i32_166 : BitVec 32 := 0#32
  let v262 : BitVec 1 := Scalar.cmpi .slt v260 c0_i32_166
  let c0_i32_167 : BitVec 32 := 0#32
  let v263 : BitVec 1 := Scalar.cmpi .slt v259 c0_i32_167
  let v264 : BitVec 1 := Scalar.xori v262 v263
  let c0_i32_165 : BitVec 32 := 0#32
  let v261 : BitVec 1 := Scalar.cmpi .ne v260 c0_i32_165
  let v265 : BitVec 1 := Scalar.andi v264 v261
  let v266 : BitVec 32 := Scalar.addi v260 v259
  let v267 : BitVec 32 := Scalar.select v265 v266 v260
  let c256_i32_168 : BitVec 32 := 256#32
  let v268 : BitVec 32 := Scalar.muli v267 c256_i32_168
  let v269 : BitVec 32 := Scalar.addi c0_i32_169 v268
  let v270 : Index := Scalar.indexCast v269
  let c0 : Index := 0#32
  ![v270.toNat, 0]
def k0_off1_at (r : Fin 6) : BitVec 32 × BitVec 32 × BitVec 32 :=
  if r.val < 3 then
    if r.val < 1 then
      (0#32, 4#32, 1#32)
    else
      if r.val < 2 then
        (0#32, 4#32, 2#32)
      else
        (0#32, 4#32, 3#32)
  else
    if r.val < 4 then
      (1024#32, 1#32, 1#32)
    else
      if r.val < 5 then
        (1024#32, 1#32, 2#32)
      else
        (1024#32, 1#32, 3#32)
def k0_dev7 (d0 : Dev nD) : Nat :=
  let c0_i32_262 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_261 : BitVec 32 := 16#32
  let v404 : BitVec 32 := Scalar.muli v2 c16_i32_261
  let v405 : BitVec 32 := Scalar.addi c0_i32_262 v404
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v371 : BitVec 32 := Scalar.addi v5 c1_i32_236
  let c4_i32_237 : BitVec 32 := 4#32
  let c0_i32_238 : BitVec 32 := 0#32
  let v372 : BitVec 1 := Scalar.cmpi .eq c4_i32_237 c0_i32_238
  let c1_i32_239 : BitVec 32 := 1#32
  let v373 : BitVec 32 := Scalar.select v372 c1_i32_239 c4_i32_237
  let v374 : BitVec 32 := Scalar.remsi v371 v373
  let c0_i32_241 : BitVec 32 := 0#32
  let v376 : BitVec 1 := Scalar.cmpi .slt v374 c0_i32_241
  let c0_i32_242 : BitVec 32 := 0#32
  let v377 : BitVec 1 := Scalar.cmpi .slt v373 c0_i32_242
  let v378 : BitVec 1 := Scalar.xori v376 v377
  let c0_i32_240 : BitVec 32 := 0#32
  let v375 : BitVec 1 := Scalar.cmpi .ne v374 c0_i32_240
  let v379 : BitVec 1 := Scalar.andi v378 v375
  let v380 : BitVec 32 := Scalar.addi v374 v373
  let v381 : BitVec 32 := Scalar.select v379 v380 v374
  let c4_i32_263 : BitVec 32 := 4#32
  let v406 : BitVec 32 := Scalar.muli v381 c4_i32_263
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v408 : BitVec 32 := Scalar.muli v8 c1_i32_264
  let v409 : BitVec 32 := Scalar.addi v407 v408
  v409.toNat
def k0_dev8 (d0 : Dev nD) : Nat :=
  let c0_i32_274 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_273 : BitVec 32 := 16#32
  let v418 : BitVec 32 := Scalar.muli v2 c16_i32_273
  let v419 : BitVec 32 := Scalar.addi c0_i32_274 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_243 : BitVec 32 := 2#32
  let v382 : BitVec 32 := Scalar.addi v5 c2_i32_243
  let c4_i32_244 : BitVec 32 := 4#32
  let c0_i32_245 : BitVec 32 := 0#32
  let v383 : BitVec 1 := Scalar.cmpi .eq c4_i32_244 c0_i32_245
  let c1_i32_246 : BitVec 32 := 1#32
  let v384 : BitVec 32 := Scalar.select v383 c1_i32_246 c4_i32_244
  let v385 : BitVec 32 := Scalar.remsi v382 v384
  let c0_i32_248 : BitVec 32 := 0#32
  let v387 : BitVec 1 := Scalar.cmpi .slt v385 c0_i32_248
  let c0_i32_249 : BitVec 32 := 0#32
  let v388 : BitVec 1 := Scalar.cmpi .slt v384 c0_i32_249
  let v389 : BitVec 1 := Scalar.xori v387 v388
  let c0_i32_247 : BitVec 32 := 0#32
  let v386 : BitVec 1 := Scalar.cmpi .ne v385 c0_i32_247
  let v390 : BitVec 1 := Scalar.andi v389 v386
  let v391 : BitVec 32 := Scalar.addi v385 v384
  let v392 : BitVec 32 := Scalar.select v390 v391 v385
  let c4_i32_275 : BitVec 32 := 4#32
  let v420 : BitVec 32 := Scalar.muli v392 c4_i32_275
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v422 : BitVec 32 := Scalar.muli v8 c1_i32_276
  let v423 : BitVec 32 := Scalar.addi v421 v422
  v423.toNat
def k0_dev9 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v432 : BitVec 32 := Scalar.muli v2 c16_i32_285
  let v433 : BitVec 32 := Scalar.addi c0_i32_286 v432
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_250 : BitVec 32 := 3#32
  let v393 : BitVec 32 := Scalar.addi v5 c3_i32_250
  let c4_i32_251 : BitVec 32 := 4#32
  let c0_i32_252 : BitVec 32 := 0#32
  let v394 : BitVec 1 := Scalar.cmpi .eq c4_i32_251 c0_i32_252
  let c1_i32_253 : BitVec 32 := 1#32
  let v395 : BitVec 32 := Scalar.select v394 c1_i32_253 c4_i32_251
  let v396 : BitVec 32 := Scalar.remsi v393 v395
  let c0_i32_255 : BitVec 32 := 0#32
  let v398 : BitVec 1 := Scalar.cmpi .slt v396 c0_i32_255
  let c0_i32_256 : BitVec 32 := 0#32
  let v399 : BitVec 1 := Scalar.cmpi .slt v395 c0_i32_256
  let v400 : BitVec 1 := Scalar.xori v398 v399
  let c0_i32_254 : BitVec 32 := 0#32
  let v397 : BitVec 1 := Scalar.cmpi .ne v396 c0_i32_254
  let v401 : BitVec 1 := Scalar.andi v400 v397
  let v402 : BitVec 32 := Scalar.addi v396 v395
  let v403 : BitVec 32 := Scalar.select v401 v402 v396
  let c4_i32_287 : BitVec 32 := 4#32
  let v434 : BitVec 32 := Scalar.muli v403 c4_i32_287
  let v435 : BitVec 32 := Scalar.addi v433 v434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v436 : BitVec 32 := Scalar.muli v8 c1_i32_288
  let v437 : BitVec 32 := Scalar.addi v435 v436
  v437.toNat
def k0_dev10 (d0 : Dev nD) : Nat :=
  let c0_i32_319 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_318 : BitVec 32 := 16#32
  let v479 : BitVec 32 := Scalar.muli v2 c16_i32_318
  let v480 : BitVec 32 := Scalar.addi c0_i32_319 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_320 : BitVec 32 := 4#32
  let v481 : BitVec 32 := Scalar.muli v5 c4_i32_320
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v446 : BitVec 32 := Scalar.addi v8 c1_i32_293
  let c4_i32_294 : BitVec 32 := 4#32
  let c0_i32_295 : BitVec 32 := 0#32
  let v447 : BitVec 1 := Scalar.cmpi .eq c4_i32_294 c0_i32_295
  let c1_i32_296 : BitVec 32 := 1#32
  let v448 : BitVec 32 := Scalar.select v447 c1_i32_296 c4_i32_294
  let v449 : BitVec 32 := Scalar.remsi v446 v448
  let c0_i32_298 : BitVec 32 := 0#32
  let v451 : BitVec 1 := Scalar.cmpi .slt v449 c0_i32_298
  let c0_i32_299 : BitVec 32 := 0#32
  let v452 : BitVec 1 := Scalar.cmpi .slt v448 c0_i32_299
  let v453 : BitVec 1 := Scalar.xori v451 v452
  let c0_i32_297 : BitVec 32 := 0#32
  let v450 : BitVec 1 := Scalar.cmpi .ne v449 c0_i32_297
  let v454 : BitVec 1 := Scalar.andi v453 v450
  let v455 : BitVec 32 := Scalar.addi v449 v448
  let v456 : BitVec 32 := Scalar.select v454 v455 v449
  let c1_i32_321 : BitVec 32 := 1#32
  let v483 : BitVec 32 := Scalar.muli v456 c1_i32_321
  let v484 : BitVec 32 := Scalar.addi v482 v483
  v484.toNat
def k0_dev11 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v493 : BitVec 32 := Scalar.muli v2 c16_i32_330
  let v494 : BitVec 32 := Scalar.addi c0_i32_331 v493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v495 : BitVec 32 := Scalar.muli v5 c4_i32_332
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_300 : BitVec 32 := 2#32
  let v457 : BitVec 32 := Scalar.addi v8 c2_i32_300
  let c4_i32_301 : BitVec 32 := 4#32
  let c0_i32_302 : BitVec 32 := 0#32
  let v458 : BitVec 1 := Scalar.cmpi .eq c4_i32_301 c0_i32_302
  let c1_i32_303 : BitVec 32 := 1#32
  let v459 : BitVec 32 := Scalar.select v458 c1_i32_303 c4_i32_301
  let v460 : BitVec 32 := Scalar.remsi v457 v459
  let c0_i32_305 : BitVec 32 := 0#32
  let v462 : BitVec 1 := Scalar.cmpi .slt v460 c0_i32_305
  let c0_i32_306 : BitVec 32 := 0#32
  let v463 : BitVec 1 := Scalar.cmpi .slt v459 c0_i32_306
  let v464 : BitVec 1 := Scalar.xori v462 v463
  let c0_i32_304 : BitVec 32 := 0#32
  let v461 : BitVec 1 := Scalar.cmpi .ne v460 c0_i32_304
  let v465 : BitVec 1 := Scalar.andi v464 v461
  let v466 : BitVec 32 := Scalar.addi v460 v459
  let v467 : BitVec 32 := Scalar.select v465 v466 v460
  let c1_i32_333 : BitVec 32 := 1#32
  let v497 : BitVec 32 := Scalar.muli v467 c1_i32_333
  let v498 : BitVec 32 := Scalar.addi v496 v497
  v498.toNat
def k0_dev12 (d0 : Dev nD) : Nat :=
  let c0_i32_343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_342 : BitVec 32 := 16#32
  let v507 : BitVec 32 := Scalar.muli v2 c16_i32_342
  let v508 : BitVec 32 := Scalar.addi c0_i32_343 v507
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v509 : BitVec 32 := Scalar.muli v5 c4_i32_344
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_307 : BitVec 32 := 3#32
  let v468 : BitVec 32 := Scalar.addi v8 c3_i32_307
  let c4_i32_308 : BitVec 32 := 4#32
  let c0_i32_309 : BitVec 32 := 0#32
  let v469 : BitVec 1 := Scalar.cmpi .eq c4_i32_308 c0_i32_309
  let c1_i32_310 : BitVec 32 := 1#32
  let v470 : BitVec 32 := Scalar.select v469 c1_i32_310 c4_i32_308
  let v471 : BitVec 32 := Scalar.remsi v468 v470
  let c0_i32_312 : BitVec 32 := 0#32
  let v473 : BitVec 1 := Scalar.cmpi .slt v471 c0_i32_312
  let c0_i32_313 : BitVec 32 := 0#32
  let v474 : BitVec 1 := Scalar.cmpi .slt v470 c0_i32_313
  let v475 : BitVec 1 := Scalar.xori v473 v474
  let c0_i32_311 : BitVec 32 := 0#32
  let v472 : BitVec 1 := Scalar.cmpi .ne v471 c0_i32_311
  let v476 : BitVec 1 := Scalar.andi v475 v472
  let v477 : BitVec 32 := Scalar.addi v471 v470
  let v478 : BitVec 32 := Scalar.select v476 v477 v471
  let c1_i32_345 : BitVec 32 := 1#32
  let v511 : BitVec 32 := Scalar.muli v478 c1_i32_345
  let v512 : BitVec 32 := Scalar.addi v510 v511
  v512.toNat
def k0_off2 (d0 : Dev nD) (c0_i32_477 : BitVec 32) (c4_i32_0 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32_476 : BitVec 32 := 256#32
  let v629 : BitVec 32 := Scalar.muli v5 c256_i32_476
  let v630 : BitVec 32 := Scalar.addi c0_i32_477 v629
  let v631 : Index := Scalar.indexCast v630
  let c0_478 : Index := 0#32
  ![v631.toNat, 0]
def k0_off2_at (r : Fin 2) : BitVec 32 × BitVec 32 :=
  if r.val < 1 then
    (0#32, 4#32)
  else
    (1024#32, 1#32)
def k0_dev13 (d0 : Dev nD) : Nat :=
  let c0_i32_505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_504 : BitVec 32 := 16#32
  let v671 : BitVec 32 := Scalar.muli v2 c16_i32_504
  let v672 : BitVec 32 := Scalar.addi c0_i32_505 v671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_506 : BitVec 32 := 4#32
  let v673 : BitVec 32 := Scalar.muli v5 c4_i32_506
  let v674 : BitVec 32 := Scalar.addi v672 v673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v152 : BitVec 32 := Scalar.addi v8 c1_i32_95
  let c4_i32_96 : BitVec 32 := 4#32
  let c0_i32_97 : BitVec 32 := 0#32
  let v153 : BitVec 1 := Scalar.cmpi .eq c4_i32_96 c0_i32_97
  let c1_i32_98 : BitVec 32 := 1#32
  let v154 : BitVec 32 := Scalar.select v153 c1_i32_98 c4_i32_96
  let v155 : BitVec 32 := Scalar.remsi v152 v154
  let c0_i32_100 : BitVec 32 := 0#32
  let v157 : BitVec 1 := Scalar.cmpi .slt v155 c0_i32_100
  let c0_i32_101 : BitVec 32 := 0#32
  let v158 : BitVec 1 := Scalar.cmpi .slt v154 c0_i32_101
  let v159 : BitVec 1 := Scalar.xori v157 v158
  let c0_i32_99 : BitVec 32 := 0#32
  let v156 : BitVec 1 := Scalar.cmpi .ne v155 c0_i32_99
  let v160 : BitVec 1 := Scalar.andi v159 v156
  let v161 : BitVec 32 := Scalar.addi v155 v154
  let v162 : BitVec 32 := Scalar.select v160 v161 v155
  let c1_i32_507 : BitVec 32 := 1#32
  let v675 : BitVec 32 := Scalar.muli v162 c1_i32_507
  let v676 : BitVec 32 := Scalar.addi v674 v675
  v676.toNat
def k0_dev14 (d0 : Dev nD) : Nat :=
  let c0_i32_511 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_510 : BitVec 32 := 16#32
  let v679 : BitVec 32 := Scalar.muli v2 c16_i32_510
  let v680 : BitVec 32 := Scalar.addi c0_i32_511 v679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_512 : BitVec 32 := 4#32
  let v681 : BitVec 32 := Scalar.muli v5 c4_i32_512
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v163 : BitVec 32 := Scalar.addi v8 c2_i32_102
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v163 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c1_i32_513 : BitVec 32 := 1#32
  let v683 : BitVec 32 := Scalar.muli v173 c1_i32_513
  let v684 : BitVec 32 := Scalar.addi v682 v683
  v684.toNat
def k0_dev15 (d0 : Dev nD) : Nat :=
  let c0_i32_517 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_516 : BitVec 32 := 16#32
  let v687 : BitVec 32 := Scalar.muli v2 c16_i32_516
  let v688 : BitVec 32 := Scalar.addi c0_i32_517 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_518 : BitVec 32 := 4#32
  let v689 : BitVec 32 := Scalar.muli v5 c4_i32_518
  let v690 : BitVec 32 := Scalar.addi v688 v689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v174 : BitVec 32 := Scalar.addi v8 c3_i32_109
  let c4_i32_110 : BitVec 32 := 4#32
  let c0_i32_111 : BitVec 32 := 0#32
  let v175 : BitVec 1 := Scalar.cmpi .eq c4_i32_110 c0_i32_111
  let c1_i32_112 : BitVec 32 := 1#32
  let v176 : BitVec 32 := Scalar.select v175 c1_i32_112 c4_i32_110
  let v177 : BitVec 32 := Scalar.remsi v174 v176
  let c0_i32_114 : BitVec 32 := 0#32
  let v179 : BitVec 1 := Scalar.cmpi .slt v177 c0_i32_114
  let c0_i32_115 : BitVec 32 := 0#32
  let v180 : BitVec 1 := Scalar.cmpi .slt v176 c0_i32_115
  let v181 : BitVec 1 := Scalar.xori v179 v180
  let c0_i32_113 : BitVec 32 := 0#32
  let v178 : BitVec 1 := Scalar.cmpi .ne v177 c0_i32_113
  let v182 : BitVec 1 := Scalar.andi v181 v178
  let v183 : BitVec 32 := Scalar.addi v177 v176
  let v184 : BitVec 32 := Scalar.select v182 v183 v177
  let c1_i32_519 : BitVec 32 := 1#32
  let v691 : BitVec 32 := Scalar.muli v184 c1_i32_519
  let v692 : BitVec 32 := Scalar.addi v690 v691
  v692.toNat
def k0_dev16 (d0 : Dev nD) : Nat :=
  let c0_i32_523 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_522 : BitVec 32 := 16#32
  let v695 : BitVec 32 := Scalar.muli v2 c16_i32_522
  let v696 : BitVec 32 := Scalar.addi c0_i32_523 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_140 : BitVec 32 := 1#32
  let v224 : BitVec 32 := Scalar.addi v5 c1_i32_140
  let c4_i32_141 : BitVec 32 := 4#32
  let c0_i32_142 : BitVec 32 := 0#32
  let v225 : BitVec 1 := Scalar.cmpi .eq c4_i32_141 c0_i32_142
  let c1_i32_143 : BitVec 32 := 1#32
  let v226 : BitVec 32 := Scalar.select v225 c1_i32_143 c4_i32_141
  let v227 : BitVec 32 := Scalar.remsi v224 v226
  let c0_i32_145 : BitVec 32 := 0#32
  let v229 : BitVec 1 := Scalar.cmpi .slt v227 c0_i32_145
  let c0_i32_146 : BitVec 32 := 0#32
  let v230 : BitVec 1 := Scalar.cmpi .slt v226 c0_i32_146
  let v231 : BitVec 1 := Scalar.xori v229 v230
  let c0_i32_144 : BitVec 32 := 0#32
  let v228 : BitVec 1 := Scalar.cmpi .ne v227 c0_i32_144
  let v232 : BitVec 1 := Scalar.andi v231 v228
  let v233 : BitVec 32 := Scalar.addi v227 v226
  let v234 : BitVec 32 := Scalar.select v232 v233 v227
  let c4_i32_524 : BitVec 32 := 4#32
  let v697 : BitVec 32 := Scalar.muli v234 c4_i32_524
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v699 : BitVec 32 := Scalar.muli v8 c1_i32_525
  let v700 : BitVec 32 := Scalar.addi v698 v699
  v700.toNat
def k0_dev17 (d0 : Dev nD) : Nat :=
  let c0_i32_529 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_528 : BitVec 32 := 16#32
  let v703 : BitVec 32 := Scalar.muli v2 c16_i32_528
  let v704 : BitVec 32 := Scalar.addi c0_i32_529 v703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_147 : BitVec 32 := 2#32
  let v235 : BitVec 32 := Scalar.addi v5 c2_i32_147
  let c4_i32_148 : BitVec 32 := 4#32
  let c0_i32_149 : BitVec 32 := 0#32
  let v236 : BitVec 1 := Scalar.cmpi .eq c4_i32_148 c0_i32_149
  let c1_i32_150 : BitVec 32 := 1#32
  let v237 : BitVec 32 := Scalar.select v236 c1_i32_150 c4_i32_148
  let v238 : BitVec 32 := Scalar.remsi v235 v237
  let c0_i32_152 : BitVec 32 := 0#32
  let v240 : BitVec 1 := Scalar.cmpi .slt v238 c0_i32_152
  let c0_i32_153 : BitVec 32 := 0#32
  let v241 : BitVec 1 := Scalar.cmpi .slt v237 c0_i32_153
  let v242 : BitVec 1 := Scalar.xori v240 v241
  let c0_i32_151 : BitVec 32 := 0#32
  let v239 : BitVec 1 := Scalar.cmpi .ne v238 c0_i32_151
  let v243 : BitVec 1 := Scalar.andi v242 v239
  let v244 : BitVec 32 := Scalar.addi v238 v237
  let v245 : BitVec 32 := Scalar.select v243 v244 v238
  let c4_i32_530 : BitVec 32 := 4#32
  let v705 : BitVec 32 := Scalar.muli v245 c4_i32_530
  let v706 : BitVec 32 := Scalar.addi v704 v705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v707 : BitVec 32 := Scalar.muli v8 c1_i32_531
  let v708 : BitVec 32 := Scalar.addi v706 v707
  v708.toNat
def k0_dev18 (d0 : Dev nD) : Nat :=
  let c0_i32_535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_534 : BitVec 32 := 16#32
  let v711 : BitVec 32 := Scalar.muli v2 c16_i32_534
  let v712 : BitVec 32 := Scalar.addi c0_i32_535 v711
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_154 : BitVec 32 := 3#32
  let v246 : BitVec 32 := Scalar.addi v5 c3_i32_154
  let c4_i32_155 : BitVec 32 := 4#32
  let c0_i32_156 : BitVec 32 := 0#32
  let v247 : BitVec 1 := Scalar.cmpi .eq c4_i32_155 c0_i32_156
  let c1_i32_157 : BitVec 32 := 1#32
  let v248 : BitVec 32 := Scalar.select v247 c1_i32_157 c4_i32_155
  let v249 : BitVec 32 := Scalar.remsi v246 v248
  let c0_i32_159 : BitVec 32 := 0#32
  let v251 : BitVec 1 := Scalar.cmpi .slt v249 c0_i32_159
  let c0_i32_160 : BitVec 32 := 0#32
  let v252 : BitVec 1 := Scalar.cmpi .slt v248 c0_i32_160
  let v253 : BitVec 1 := Scalar.xori v251 v252
  let c0_i32_158 : BitVec 32 := 0#32
  let v250 : BitVec 1 := Scalar.cmpi .ne v249 c0_i32_158
  let v254 : BitVec 1 := Scalar.andi v253 v250
  let v255 : BitVec 32 := Scalar.addi v249 v248
  let v256 : BitVec 32 := Scalar.select v254 v255 v249
  let c4_i32_536 : BitVec 32 := 4#32
  let v713 : BitVec 32 := Scalar.muli v256 c4_i32_536
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v715 : BitVec 32 := Scalar.muli v8 c1_i32_537
  let v716 : BitVec 32 := Scalar.addi v714 v715
  v716.toNat
def k0_off3 (d0 : Dev nD) (c0_i32_73 : BitVec 32) (c4_i32_0 : BitVec 32) (c1_i32 : BitVec 32) (c1_i32_538 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32 : BitVec 32 := 256#32
  let v113 : BitVec 32 := Scalar.muli v5 c256_i32
  let v114 : BitVec 32 := Scalar.addi c0_i32_73 v113
  let v6 : BitVec 32 := Dev.word d0
  let v7 : BitVec 32 := Scalar.divsi v6 c1_i32
  let c4_i32_1 : BitVec 32 := 4#32
  let v8 : BitVec 32 := Scalar.remsi v7 c4_i32_1
  let v717 : BitVec 32 := Scalar.addi v8 c1_i32_538
  let c4_i32_539 : BitVec 32 := 4#32
  let c0_i32_540 : BitVec 32 := 0#32
  let v718 : BitVec 1 := Scalar.cmpi .eq c4_i32_539 c0_i32_540
  let c1_i32_541 : BitVec 32 := 1#32
  let v719 : BitVec 32 := Scalar.select v718 c1_i32_541 c4_i32_539
  let v720 : BitVec 32 := Scalar.remsi v717 v719
  let c0_i32_543 : BitVec 32 := 0#32
  let v722 : BitVec 1 := Scalar.cmpi .slt v720 c0_i32_543
  let c0_i32_544 : BitVec 32 := 0#32
  let v723 : BitVec 1 := Scalar.cmpi .slt v719 c0_i32_544
  let v724 : BitVec 1 := Scalar.xori v722 v723
  let c0_i32_542 : BitVec 32 := 0#32
  let v721 : BitVec 1 := Scalar.cmpi .ne v720 c0_i32_542
  let v725 : BitVec 1 := Scalar.andi v724 v721
  let v726 : BitVec 32 := Scalar.addi v720 v719
  let v727 : BitVec 32 := Scalar.select v725 v726 v720
  let c64_i32_545 : BitVec 32 := 64#32
  let v728 : BitVec 32 := Scalar.muli v727 c64_i32_545
  let v729 : BitVec 32 := Scalar.addi v114 v728
  let v730 : Index := Scalar.indexCast v729
  let c0_546 : Index := 0#32
  ![v730.toNat, 0]
def k0_off3_at (r : Fin 6) : BitVec 32 × BitVec 32 × BitVec 32 × BitVec 32 :=
  if r.val < 3 then
    if r.val < 1 then
      (0#32, 4#32, 1#32, 1#32)
    else
      if r.val < 2 then
        (0#32, 4#32, 1#32, 2#32)
      else
        (0#32, 4#32, 1#32, 3#32)
  else
    if r.val < 4 then
      (1024#32, 1#32, 4#32, 1#32)
    else
      if r.val < 5 then
        (1024#32, 1#32, 4#32, 2#32)
      else
        (1024#32, 1#32, 4#32, 3#32)
def k0_dev19 (d0 : Dev nD) : Nat :=
  let c0_i32_639 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_638 : BitVec 32 := 16#32
  let v872 : BitVec 32 := Scalar.muli v2 c16_i32_638
  let v873 : BitVec 32 := Scalar.addi c0_i32_639 v872
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_640 : BitVec 32 := 4#32
  let v874 : BitVec 32 := Scalar.muli v5 c4_i32_640
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v839 : BitVec 32 := Scalar.addi v8 c1_i32_613
  let c4_i32_614 : BitVec 32 := 4#32
  let c0_i32_615 : BitVec 32 := 0#32
  let v840 : BitVec 1 := Scalar.cmpi .eq c4_i32_614 c0_i32_615
  let c1_i32_616 : BitVec 32 := 1#32
  let v841 : BitVec 32 := Scalar.select v840 c1_i32_616 c4_i32_614
  let v842 : BitVec 32 := Scalar.remsi v839 v841
  let c0_i32_618 : BitVec 32 := 0#32
  let v844 : BitVec 1 := Scalar.cmpi .slt v842 c0_i32_618
  let c0_i32_619 : BitVec 32 := 0#32
  let v845 : BitVec 1 := Scalar.cmpi .slt v841 c0_i32_619
  let v846 : BitVec 1 := Scalar.xori v844 v845
  let c0_i32_617 : BitVec 32 := 0#32
  let v843 : BitVec 1 := Scalar.cmpi .ne v842 c0_i32_617
  let v847 : BitVec 1 := Scalar.andi v846 v843
  let v848 : BitVec 32 := Scalar.addi v842 v841
  let v849 : BitVec 32 := Scalar.select v847 v848 v842
  let c1_i32_641 : BitVec 32 := 1#32
  let v876 : BitVec 32 := Scalar.muli v849 c1_i32_641
  let v877 : BitVec 32 := Scalar.addi v875 v876
  v877.toNat
def k0_dev20 (d0 : Dev nD) : Nat :=
  let c0_i32_651 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_650 : BitVec 32 := 16#32
  let v886 : BitVec 32 := Scalar.muli v2 c16_i32_650
  let v887 : BitVec 32 := Scalar.addi c0_i32_651 v886
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_652 : BitVec 32 := 4#32
  let v888 : BitVec 32 := Scalar.muli v5 c4_i32_652
  let v889 : BitVec 32 := Scalar.addi v887 v888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_620 : BitVec 32 := 2#32
  let v850 : BitVec 32 := Scalar.addi v8 c2_i32_620
  let c4_i32_621 : BitVec 32 := 4#32
  let c0_i32_622 : BitVec 32 := 0#32
  let v851 : BitVec 1 := Scalar.cmpi .eq c4_i32_621 c0_i32_622
  let c1_i32_623 : BitVec 32 := 1#32
  let v852 : BitVec 32 := Scalar.select v851 c1_i32_623 c4_i32_621
  let v853 : BitVec 32 := Scalar.remsi v850 v852
  let c0_i32_625 : BitVec 32 := 0#32
  let v855 : BitVec 1 := Scalar.cmpi .slt v853 c0_i32_625
  let c0_i32_626 : BitVec 32 := 0#32
  let v856 : BitVec 1 := Scalar.cmpi .slt v852 c0_i32_626
  let v857 : BitVec 1 := Scalar.xori v855 v856
  let c0_i32_624 : BitVec 32 := 0#32
  let v854 : BitVec 1 := Scalar.cmpi .ne v853 c0_i32_624
  let v858 : BitVec 1 := Scalar.andi v857 v854
  let v859 : BitVec 32 := Scalar.addi v853 v852
  let v860 : BitVec 32 := Scalar.select v858 v859 v853
  let c1_i32_653 : BitVec 32 := 1#32
  let v890 : BitVec 32 := Scalar.muli v860 c1_i32_653
  let v891 : BitVec 32 := Scalar.addi v889 v890
  v891.toNat
def k0_dev21 (d0 : Dev nD) : Nat :=
  let c0_i32_663 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_662 : BitVec 32 := 16#32
  let v900 : BitVec 32 := Scalar.muli v2 c16_i32_662
  let v901 : BitVec 32 := Scalar.addi c0_i32_663 v900
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_664 : BitVec 32 := 4#32
  let v902 : BitVec 32 := Scalar.muli v5 c4_i32_664
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_627 : BitVec 32 := 3#32
  let v861 : BitVec 32 := Scalar.addi v8 c3_i32_627
  let c4_i32_628 : BitVec 32 := 4#32
  let c0_i32_629 : BitVec 32 := 0#32
  let v862 : BitVec 1 := Scalar.cmpi .eq c4_i32_628 c0_i32_629
  let c1_i32_630 : BitVec 32 := 1#32
  let v863 : BitVec 32 := Scalar.select v862 c1_i32_630 c4_i32_628
  let v864 : BitVec 32 := Scalar.remsi v861 v863
  let c0_i32_632 : BitVec 32 := 0#32
  let v866 : BitVec 1 := Scalar.cmpi .slt v864 c0_i32_632
  let c0_i32_633 : BitVec 32 := 0#32
  let v867 : BitVec 1 := Scalar.cmpi .slt v863 c0_i32_633
  let v868 : BitVec 1 := Scalar.xori v866 v867
  let c0_i32_631 : BitVec 32 := 0#32
  let v865 : BitVec 1 := Scalar.cmpi .ne v864 c0_i32_631
  let v869 : BitVec 1 := Scalar.andi v868 v865
  let v870 : BitVec 32 := Scalar.addi v864 v863
  let v871 : BitVec 32 := Scalar.select v869 v870 v864
  let c1_i32_665 : BitVec 32 := 1#32
  let v904 : BitVec 32 := Scalar.muli v871 c1_i32_665
  let v905 : BitVec 32 := Scalar.addi v903 v904
  v905.toNat
def k0_dev22 (d0 : Dev nD) : Nat :=
  let c0_i32_699 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_698 : BitVec 32 := 16#32
  let v949 : BitVec 32 := Scalar.muli v2 c16_i32_698
  let v950 : BitVec 32 := Scalar.addi c0_i32_699 v949
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_673 : BitVec 32 := 1#32
  let v916 : BitVec 32 := Scalar.addi v5 c1_i32_673
  let c4_i32_674 : BitVec 32 := 4#32
  let c0_i32_675 : BitVec 32 := 0#32
  let v917 : BitVec 1 := Scalar.cmpi .eq c4_i32_674 c0_i32_675
  let c1_i32_676 : BitVec 32 := 1#32
  let v918 : BitVec 32 := Scalar.select v917 c1_i32_676 c4_i32_674
  let v919 : BitVec 32 := Scalar.remsi v916 v918
  let c0_i32_678 : BitVec 32 := 0#32
  let v921 : BitVec 1 := Scalar.cmpi .slt v919 c0_i32_678
  let c0_i32_679 : BitVec 32 := 0#32
  let v922 : BitVec 1 := Scalar.cmpi .slt v918 c0_i32_679
  let v923 : BitVec 1 := Scalar.xori v921 v922
  let c0_i32_677 : BitVec 32 := 0#32
  let v920 : BitVec 1 := Scalar.cmpi .ne v919 c0_i32_677
  let v924 : BitVec 1 := Scalar.andi v923 v920
  let v925 : BitVec 32 := Scalar.addi v919 v918
  let v926 : BitVec 32 := Scalar.select v924 v925 v919
  let c4_i32_700 : BitVec 32 := 4#32
  let v951 : BitVec 32 := Scalar.muli v926 c4_i32_700
  let v952 : BitVec 32 := Scalar.addi v950 v951
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v953 : BitVec 32 := Scalar.muli v8 c1_i32_701
  let v954 : BitVec 32 := Scalar.addi v952 v953
  v954.toNat
def k0_dev23 (d0 : Dev nD) : Nat :=
  let c0_i32_711 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_710 : BitVec 32 := 16#32
  let v963 : BitVec 32 := Scalar.muli v2 c16_i32_710
  let v964 : BitVec 32 := Scalar.addi c0_i32_711 v963
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_680 : BitVec 32 := 2#32
  let v927 : BitVec 32 := Scalar.addi v5 c2_i32_680
  let c4_i32_681 : BitVec 32 := 4#32
  let c0_i32_682 : BitVec 32 := 0#32
  let v928 : BitVec 1 := Scalar.cmpi .eq c4_i32_681 c0_i32_682
  let c1_i32_683 : BitVec 32 := 1#32
  let v929 : BitVec 32 := Scalar.select v928 c1_i32_683 c4_i32_681
  let v930 : BitVec 32 := Scalar.remsi v927 v929
  let c0_i32_685 : BitVec 32 := 0#32
  let v932 : BitVec 1 := Scalar.cmpi .slt v930 c0_i32_685
  let c0_i32_686 : BitVec 32 := 0#32
  let v933 : BitVec 1 := Scalar.cmpi .slt v929 c0_i32_686
  let v934 : BitVec 1 := Scalar.xori v932 v933
  let c0_i32_684 : BitVec 32 := 0#32
  let v931 : BitVec 1 := Scalar.cmpi .ne v930 c0_i32_684
  let v935 : BitVec 1 := Scalar.andi v934 v931
  let v936 : BitVec 32 := Scalar.addi v930 v929
  let v937 : BitVec 32 := Scalar.select v935 v936 v930
  let c4_i32_712 : BitVec 32 := 4#32
  let v965 : BitVec 32 := Scalar.muli v937 c4_i32_712
  let v966 : BitVec 32 := Scalar.addi v964 v965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v967 : BitVec 32 := Scalar.muli v8 c1_i32_713
  let v968 : BitVec 32 := Scalar.addi v966 v967
  v968.toNat
def k0_dev24 (d0 : Dev nD) : Nat :=
  let c0_i32_723 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_722 : BitVec 32 := 16#32
  let v977 : BitVec 32 := Scalar.muli v2 c16_i32_722
  let v978 : BitVec 32 := Scalar.addi c0_i32_723 v977
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_687 : BitVec 32 := 3#32
  let v938 : BitVec 32 := Scalar.addi v5 c3_i32_687
  let c4_i32_688 : BitVec 32 := 4#32
  let c0_i32_689 : BitVec 32 := 0#32
  let v939 : BitVec 1 := Scalar.cmpi .eq c4_i32_688 c0_i32_689
  let c1_i32_690 : BitVec 32 := 1#32
  let v940 : BitVec 32 := Scalar.select v939 c1_i32_690 c4_i32_688
  let v941 : BitVec 32 := Scalar.remsi v938 v940
  let c0_i32_692 : BitVec 32 := 0#32
  let v943 : BitVec 1 := Scalar.cmpi .slt v941 c0_i32_692
  let c0_i32_693 : BitVec 32 := 0#32
  let v944 : BitVec 1 := Scalar.cmpi .slt v940 c0_i32_693
  let v945 : BitVec 1 := Scalar.xori v943 v944
  let c0_i32_691 : BitVec 32 := 0#32
  let v942 : BitVec 1 := Scalar.cmpi .ne v941 c0_i32_691
  let v946 : BitVec 1 := Scalar.andi v945 v942
  let v947 : BitVec 32 := Scalar.addi v941 v940
  let v948 : BitVec 32 := Scalar.select v946 v947 v941
  let c4_i32_724 : BitVec 32 := 4#32
  let v979 : BitVec 32 := Scalar.muli v948 c4_i32_724
  let v980 : BitVec 32 := Scalar.addi v978 v979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v981 : BitVec 32 := Scalar.muli v8 c1_i32_725
  let v982 : BitVec 32 := Scalar.addi v980 v981
  v982.toNat
def k0_off4 (d0 : Dev nD) (c0_i32_73 : BitVec 32) (c4_i32_0 : BitVec 32) (c1_i32 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32 : BitVec 32 := 256#32
  let v113 : BitVec 32 := Scalar.muli v5 c256_i32
  let v114 : BitVec 32 := Scalar.addi c0_i32_73 v113
  let v6 : BitVec 32 := Dev.word d0
  let v7 : BitVec 32 := Scalar.divsi v6 c1_i32
  let c4_i32_1 : BitVec 32 := 4#32
  let v8 : BitVec 32 := Scalar.remsi v7 c4_i32_1
  let c64_i32_856 : BitVec 32 := 64#32
  let v1099 : BitVec 32 := Scalar.muli v8 c64_i32_856
  let v1100 : BitVec 32 := Scalar.addi v114 v1099
  let v1101 : Index := Scalar.indexCast v1100
  let c0_857 : Index := 0#32
  ![v1101.toNat, 0]
def k0_off4_at (r : Fin 2) : BitVec 32 × BitVec 32 × BitVec 32 :=
  if r.val < 1 then
    (0#32, 4#32, 1#32)
  else
    (1024#32, 1#32, 4#32)
def k0_dev25 (d0 : Dev nD) : Nat :=
  let c0_i32_883 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_882 : BitVec 32 := 16#32
  let v1139 : BitVec 32 := Scalar.muli v9 c16_i32_882
  let v1140 : BitVec 32 := Scalar.addi c0_i32_883 v1139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_884 : BitVec 32 := 4#32
  let v1141 : BitVec 32 := Scalar.muli v5 c4_i32_884
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_885 : BitVec 32 := 1#32
  let v1143 : BitVec 32 := Scalar.muli v8 c1_i32_885
  let v1144 : BitVec 32 := Scalar.addi v1142 v1143
  v1144.toNat
def k0_dev26 (d0 : Dev nD) : Nat :=
  let c0_i32_889 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_888 : BitVec 32 := 16#32
  let v1147 : BitVec 32 := Scalar.muli v9 c16_i32_888
  let v1148 : BitVec 32 := Scalar.addi c0_i32_889 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_890 : BitVec 32 := 4#32
  let v1149 : BitVec 32 := Scalar.muli v5 c4_i32_890
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_891 : BitVec 32 := 1#32
  let v1151 : BitVec 32 := Scalar.muli v8 c1_i32_891
  let v1152 : BitVec 32 := Scalar.addi v1150 v1151
  v1152.toNat
def k0_off5 (d0 : Dev nD) (c0_i32_73 : BitVec 32) (c4_i32_0 : BitVec 32) (c1_i32 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32 : BitVec 32 := 256#32
  let v113 : BitVec 32 := Scalar.muli v5 c256_i32
  let v114 : BitVec 32 := Scalar.addi c0_i32_73 v113
  let v6 : BitVec 32 := Dev.word d0
  let v7 : BitVec 32 := Scalar.divsi v6 c1_i32
  let c4_i32_1 : BitVec 32 := 4#32
  let v8 : BitVec 32 := Scalar.remsi v7 c4_i32_1
  let c64_i32 : BitVec 32 := 64#32
  let v115 : BitVec 32 := Scalar.muli v8 c64_i32
  let v116 : BitVec 32 := Scalar.addi v114 v115
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c32_i32_892 : BitVec 32 := 32#32
  let v1153 : BitVec 32 := Scalar.muli v9 c32_i32_892
  let v1154 : BitVec 32 := Scalar.addi v116 v1153
  let v1155 : Index := Scalar.indexCast v1154
  let c0_893 : Index := 0#32
  ![v1155.toNat, 0]
def k0_off5_at (r : Fin 2) : BitVec 32 × BitVec 32 × BitVec 32 :=
  if r.val < 1 then
    (0#32, 4#32, 1#32)
  else
    (1024#32, 1#32, 4#32)
def k0_dev27 (d0 : Dev nD) : Nat :=
  let c0_i32_910 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_909 : BitVec 32 := 16#32
  let v1173 : BitVec 32 := Scalar.muli v9 c16_i32_909
  let v1174 : BitVec 32 := Scalar.addi c0_i32_910 v1173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_911 : BitVec 32 := 4#32
  let v1175 : BitVec 32 := Scalar.muli v5 c4_i32_911
  let v1176 : BitVec 32 := Scalar.addi v1174 v1175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_912 : BitVec 32 := 1#32
  let v1177 : BitVec 32 := Scalar.muli v8 c1_i32_912
  let v1178 : BitVec 32 := Scalar.addi v1176 v1177
  v1178.toNat
def k0_dev28 (d0 : Dev nD) : Nat :=
  let c0_i32_925 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_924 : BitVec 32 := 16#32
  let v1189 : BitVec 32 := Scalar.muli v9 c16_i32_924
  let v1190 : BitVec 32 := Scalar.addi c0_i32_925 v1189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_926 : BitVec 32 := 4#32
  let v1191 : BitVec 32 := Scalar.muli v5 c4_i32_926
  let v1192 : BitVec 32 := Scalar.addi v1190 v1191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_927 : BitVec 32 := 1#32
  let v1193 : BitVec 32 := Scalar.muli v8 c1_i32_927
  let v1194 : BitVec 32 := Scalar.addi v1192 v1193
  v1194.toNat
def k0_off6 (d0 : Dev nD) (c0_i32_73 : BitVec 32) (c4_i32_0 : BitVec 32) (c1_i32 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32 : BitVec 32 := 256#32
  let v113 : BitVec 32 := Scalar.muli v5 c256_i32
  let v114 : BitVec 32 := Scalar.addi c0_i32_73 v113
  let v6 : BitVec 32 := Dev.word d0
  let v7 : BitVec 32 := Scalar.divsi v6 c1_i32
  let c4_i32_1 : BitVec 32 := 4#32
  let v8 : BitVec 32 := Scalar.remsi v7 c4_i32_1
  let c64_i32 : BitVec 32 := 64#32
  let v115 : BitVec 32 := Scalar.muli v8 c64_i32
  let v116 : BitVec 32 := Scalar.addi v114 v115
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c32_i32_974 : BitVec 32 := 32#32
  let v1239 : BitVec 32 := Scalar.muli v2 c32_i32_974
  let v1240 : BitVec 32 := Scalar.addi v116 v1239
  let v1241 : Index := Scalar.indexCast v1240
  let c0_975 : Index := 0#32
  ![v1241.toNat, 0]
def k0_off6_at (r : Fin 2) : BitVec 32 × BitVec 32 × BitVec 32 :=
  if r.val < 1 then
    (0#32, 4#32, 1#32)
  else
    (1024#32, 1#32, 4#32)
def k0_dev29 (d0 : Dev nD) : Nat :=
  let c0_i32_989 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_988 : BitVec 32 := 16#32
  let v1263 : BitVec 32 := Scalar.muli v9 c16_i32_988
  let v1264 : BitVec 32 := Scalar.addi c0_i32_989 v1263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_990 : BitVec 32 := 4#32
  let v1265 : BitVec 32 := Scalar.muli v5 c4_i32_990
  let v1266 : BitVec 32 := Scalar.addi v1264 v1265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1267 : BitVec 32 := Scalar.muli v8 c1_i32_991
  let v1268 : BitVec 32 := Scalar.addi v1266 v1267
  v1268.toNat
def k0_dev30 (d0 : Dev nD) : Nat :=
  let c0_i32_995 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_994 : BitVec 32 := 16#32
  let v1271 : BitVec 32 := Scalar.muli v9 c16_i32_994
  let v1272 : BitVec 32 := Scalar.addi c0_i32_995 v1271
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_996 : BitVec 32 := 4#32
  let v1273 : BitVec 32 := Scalar.muli v5 c4_i32_996
  let v1274 : BitVec 32 := Scalar.addi v1272 v1273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_997 : BitVec 32 := 1#32
  let v1275 : BitVec 32 := Scalar.muli v8 c1_i32_997
  let v1276 : BitVec 32 := Scalar.addi v1274 v1275
  v1276.toNat
def k0_dev31 (d0 : Dev nD) : Nat :=
  let c0_i32_1014 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1013 : BitVec 32 := 16#32
  let v1293 : BitVec 32 := Scalar.muli v9 c16_i32_1013
  let v1294 : BitVec 32 := Scalar.addi c0_i32_1014 v1293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1015 : BitVec 32 := 4#32
  let v1295 : BitVec 32 := Scalar.muli v5 c4_i32_1015
  let v1296 : BitVec 32 := Scalar.addi v1294 v1295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1016 : BitVec 32 := 1#32
  let v1297 : BitVec 32 := Scalar.muli v8 c1_i32_1016
  let v1298 : BitVec 32 := Scalar.addi v1296 v1297
  v1298.toNat
def k0_dev32 (d0 : Dev nD) : Nat :=
  let c0_i32_1029 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1028 : BitVec 32 := 16#32
  let v1309 : BitVec 32 := Scalar.muli v9 c16_i32_1028
  let v1310 : BitVec 32 := Scalar.addi c0_i32_1029 v1309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1030 : BitVec 32 := 4#32
  let v1311 : BitVec 32 := Scalar.muli v5 c4_i32_1030
  let v1312 : BitVec 32 := Scalar.addi v1310 v1311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1313 : BitVec 32 := Scalar.muli v8 c1_i32_1031
  let v1314 : BitVec 32 := Scalar.addi v1312 v1313
  v1314.toNat
def k0_dev33 (d0 : Dev nD) : Nat :=
  let c0_i32_1091 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1090 : BitVec 32 := 16#32
  let v1375 : BitVec 32 := Scalar.muli v2 c16_i32_1090
  let v1376 : BitVec 32 := Scalar.addi c0_i32_1091 v1375
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1092 : BitVec 32 := 4#32
  let v1377 : BitVec 32 := Scalar.muli v5 c4_i32_1092
  let v1378 : BitVec 32 := Scalar.addi v1376 v1377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v152 : BitVec 32 := Scalar.addi v8 c1_i32_95
  let c4_i32_96 : BitVec 32 := 4#32
  let c0_i32_97 : BitVec 32 := 0#32
  let v153 : BitVec 1 := Scalar.cmpi .eq c4_i32_96 c0_i32_97
  let c1_i32_98 : BitVec 32 := 1#32
  let v154 : BitVec 32 := Scalar.select v153 c1_i32_98 c4_i32_96
  let v155 : BitVec 32 := Scalar.remsi v152 v154
  let c0_i32_100 : BitVec 32 := 0#32
  let v157 : BitVec 1 := Scalar.cmpi .slt v155 c0_i32_100
  let c0_i32_101 : BitVec 32 := 0#32
  let v158 : BitVec 1 := Scalar.cmpi .slt v154 c0_i32_101
  let v159 : BitVec 1 := Scalar.xori v157 v158
  let c0_i32_99 : BitVec 32 := 0#32
  let v156 : BitVec 1 := Scalar.cmpi .ne v155 c0_i32_99
  let v160 : BitVec 1 := Scalar.andi v159 v156
  let v161 : BitVec 32 := Scalar.addi v155 v154
  let v162 : BitVec 32 := Scalar.select v160 v161 v155
  let c1_i32_1093 : BitVec 32 := 1#32
  let v1379 : BitVec 32 := Scalar.muli v162 c1_i32_1093
  let v1380 : BitVec 32 := Scalar.addi v1378 v1379
  v1380.toNat
def k0_dev34 (d0 : Dev nD) : Nat :=
  let c0_i32_1097 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1096 : BitVec 32 := 16#32
  let v1383 : BitVec 32 := Scalar.muli v2 c16_i32_1096
  let v1384 : BitVec 32 := Scalar.addi c0_i32_1097 v1383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1098 : BitVec 32 := 4#32
  let v1385 : BitVec 32 := Scalar.muli v5 c4_i32_1098
  let v1386 : BitVec 32 := Scalar.addi v1384 v1385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v163 : BitVec 32 := Scalar.addi v8 c2_i32_102
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v163 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c1_i32_1099 : BitVec 32 := 1#32
  let v1387 : BitVec 32 := Scalar.muli v173 c1_i32_1099
  let v1388 : BitVec 32 := Scalar.addi v1386 v1387
  v1388.toNat
def k0_dev35 (d0 : Dev nD) : Nat :=
  let c0_i32_1103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1102 : BitVec 32 := 16#32
  let v1391 : BitVec 32 := Scalar.muli v2 c16_i32_1102
  let v1392 : BitVec 32 := Scalar.addi c0_i32_1103 v1391
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1104 : BitVec 32 := 4#32
  let v1393 : BitVec 32 := Scalar.muli v5 c4_i32_1104
  let v1394 : BitVec 32 := Scalar.addi v1392 v1393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v174 : BitVec 32 := Scalar.addi v8 c3_i32_109
  let c4_i32_110 : BitVec 32 := 4#32
  let c0_i32_111 : BitVec 32 := 0#32
  let v175 : BitVec 1 := Scalar.cmpi .eq c4_i32_110 c0_i32_111
  let c1_i32_112 : BitVec 32 := 1#32
  let v176 : BitVec 32 := Scalar.select v175 c1_i32_112 c4_i32_110
  let v177 : BitVec 32 := Scalar.remsi v174 v176
  let c0_i32_114 : BitVec 32 := 0#32
  let v179 : BitVec 1 := Scalar.cmpi .slt v177 c0_i32_114
  let c0_i32_115 : BitVec 32 := 0#32
  let v180 : BitVec 1 := Scalar.cmpi .slt v176 c0_i32_115
  let v181 : BitVec 1 := Scalar.xori v179 v180
  let c0_i32_113 : BitVec 32 := 0#32
  let v178 : BitVec 1 := Scalar.cmpi .ne v177 c0_i32_113
  let v182 : BitVec 1 := Scalar.andi v181 v178
  let v183 : BitVec 32 := Scalar.addi v177 v176
  let v184 : BitVec 32 := Scalar.select v182 v183 v177
  let c1_i32_1105 : BitVec 32 := 1#32
  let v1395 : BitVec 32 := Scalar.muli v184 c1_i32_1105
  let v1396 : BitVec 32 := Scalar.addi v1394 v1395
  v1396.toNat
def k0_dev36 (d0 : Dev nD) : Nat :=
  let c0_i32_1109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1108 : BitVec 32 := 16#32
  let v1399 : BitVec 32 := Scalar.muli v2 c16_i32_1108
  let v1400 : BitVec 32 := Scalar.addi c0_i32_1109 v1399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_140 : BitVec 32 := 1#32
  let v224 : BitVec 32 := Scalar.addi v5 c1_i32_140
  let c4_i32_141 : BitVec 32 := 4#32
  let c0_i32_142 : BitVec 32 := 0#32
  let v225 : BitVec 1 := Scalar.cmpi .eq c4_i32_141 c0_i32_142
  let c1_i32_143 : BitVec 32 := 1#32
  let v226 : BitVec 32 := Scalar.select v225 c1_i32_143 c4_i32_141
  let v227 : BitVec 32 := Scalar.remsi v224 v226
  let c0_i32_145 : BitVec 32 := 0#32
  let v229 : BitVec 1 := Scalar.cmpi .slt v227 c0_i32_145
  let c0_i32_146 : BitVec 32 := 0#32
  let v230 : BitVec 1 := Scalar.cmpi .slt v226 c0_i32_146
  let v231 : BitVec 1 := Scalar.xori v229 v230
  let c0_i32_144 : BitVec 32 := 0#32
  let v228 : BitVec 1 := Scalar.cmpi .ne v227 c0_i32_144
  let v232 : BitVec 1 := Scalar.andi v231 v228
  let v233 : BitVec 32 := Scalar.addi v227 v226
  let v234 : BitVec 32 := Scalar.select v232 v233 v227
  let c4_i32_1110 : BitVec 32 := 4#32
  let v1401 : BitVec 32 := Scalar.muli v234 c4_i32_1110
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1111 : BitVec 32 := 1#32
  let v1403 : BitVec 32 := Scalar.muli v8 c1_i32_1111
  let v1404 : BitVec 32 := Scalar.addi v1402 v1403
  v1404.toNat
def k0_dev37 (d0 : Dev nD) : Nat :=
  let c0_i32_1115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1114 : BitVec 32 := 16#32
  let v1407 : BitVec 32 := Scalar.muli v2 c16_i32_1114
  let v1408 : BitVec 32 := Scalar.addi c0_i32_1115 v1407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_147 : BitVec 32 := 2#32
  let v235 : BitVec 32 := Scalar.addi v5 c2_i32_147
  let c4_i32_148 : BitVec 32 := 4#32
  let c0_i32_149 : BitVec 32 := 0#32
  let v236 : BitVec 1 := Scalar.cmpi .eq c4_i32_148 c0_i32_149
  let c1_i32_150 : BitVec 32 := 1#32
  let v237 : BitVec 32 := Scalar.select v236 c1_i32_150 c4_i32_148
  let v238 : BitVec 32 := Scalar.remsi v235 v237
  let c0_i32_152 : BitVec 32 := 0#32
  let v240 : BitVec 1 := Scalar.cmpi .slt v238 c0_i32_152
  let c0_i32_153 : BitVec 32 := 0#32
  let v241 : BitVec 1 := Scalar.cmpi .slt v237 c0_i32_153
  let v242 : BitVec 1 := Scalar.xori v240 v241
  let c0_i32_151 : BitVec 32 := 0#32
  let v239 : BitVec 1 := Scalar.cmpi .ne v238 c0_i32_151
  let v243 : BitVec 1 := Scalar.andi v242 v239
  let v244 : BitVec 32 := Scalar.addi v238 v237
  let v245 : BitVec 32 := Scalar.select v243 v244 v238
  let c4_i32_1116 : BitVec 32 := 4#32
  let v1409 : BitVec 32 := Scalar.muli v245 c4_i32_1116
  let v1410 : BitVec 32 := Scalar.addi v1408 v1409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1117 : BitVec 32 := 1#32
  let v1411 : BitVec 32 := Scalar.muli v8 c1_i32_1117
  let v1412 : BitVec 32 := Scalar.addi v1410 v1411
  v1412.toNat
def k0_dev38 (d0 : Dev nD) : Nat :=
  let c0_i32_1121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1120 : BitVec 32 := 16#32
  let v1415 : BitVec 32 := Scalar.muli v2 c16_i32_1120
  let v1416 : BitVec 32 := Scalar.addi c0_i32_1121 v1415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_154 : BitVec 32 := 3#32
  let v246 : BitVec 32 := Scalar.addi v5 c3_i32_154
  let c4_i32_155 : BitVec 32 := 4#32
  let c0_i32_156 : BitVec 32 := 0#32
  let v247 : BitVec 1 := Scalar.cmpi .eq c4_i32_155 c0_i32_156
  let c1_i32_157 : BitVec 32 := 1#32
  let v248 : BitVec 32 := Scalar.select v247 c1_i32_157 c4_i32_155
  let v249 : BitVec 32 := Scalar.remsi v246 v248
  let c0_i32_159 : BitVec 32 := 0#32
  let v251 : BitVec 1 := Scalar.cmpi .slt v249 c0_i32_159
  let c0_i32_160 : BitVec 32 := 0#32
  let v252 : BitVec 1 := Scalar.cmpi .slt v248 c0_i32_160
  let v253 : BitVec 1 := Scalar.xori v251 v252
  let c0_i32_158 : BitVec 32 := 0#32
  let v250 : BitVec 1 := Scalar.cmpi .ne v249 c0_i32_158
  let v254 : BitVec 1 := Scalar.andi v253 v250
  let v255 : BitVec 32 := Scalar.addi v249 v248
  let v256 : BitVec 32 := Scalar.select v254 v255 v249
  let c4_i32_1122 : BitVec 32 := 4#32
  let v1417 : BitVec 32 := Scalar.muli v256 c4_i32_1122
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1123 : BitVec 32 := 1#32
  let v1419 : BitVec 32 := Scalar.muli v8 c1_i32_1123
  let v1420 : BitVec 32 := Scalar.addi v1418 v1419
  v1420.toNat
def k0_dev39 (d0 : Dev nD) : Nat :=
  let c0_i32_1149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1148 : BitVec 32 := 16#32
  let v1452 : BitVec 32 := Scalar.muli v2 c16_i32_1148
  let v1453 : BitVec 32 := Scalar.addi c0_i32_1149 v1452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1150 : BitVec 32 := 4#32
  let v1454 : BitVec 32 := Scalar.muli v5 c4_i32_1150
  let v1455 : BitVec 32 := Scalar.addi v1453 v1454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1137 : BitVec 32 := 1#32
  let v1441 : BitVec 32 := Scalar.addi v8 c1_i32_1137
  let c4_i32_1138 : BitVec 32 := 4#32
  let c0_i32_1139 : BitVec 32 := 0#32
  let v1442 : BitVec 1 := Scalar.cmpi .eq c4_i32_1138 c0_i32_1139
  let c1_i32_1140 : BitVec 32 := 1#32
  let v1443 : BitVec 32 := Scalar.select v1442 c1_i32_1140 c4_i32_1138
  let v1444 : BitVec 32 := Scalar.remsi v1441 v1443
  let c0_i32_1142 : BitVec 32 := 0#32
  let v1446 : BitVec 1 := Scalar.cmpi .slt v1444 c0_i32_1142
  let c0_i32_1143 : BitVec 32 := 0#32
  let v1447 : BitVec 1 := Scalar.cmpi .slt v1443 c0_i32_1143
  let v1448 : BitVec 1 := Scalar.xori v1446 v1447
  let c0_i32_1141 : BitVec 32 := 0#32
  let v1445 : BitVec 1 := Scalar.cmpi .ne v1444 c0_i32_1141
  let v1449 : BitVec 1 := Scalar.andi v1448 v1445
  let v1450 : BitVec 32 := Scalar.addi v1444 v1443
  let v1451 : BitVec 32 := Scalar.select v1449 v1450 v1444
  let c1_i32_1151 : BitVec 32 := 1#32
  let v1456 : BitVec 32 := Scalar.muli v1451 c1_i32_1151
  let v1457 : BitVec 32 := Scalar.addi v1455 v1456
  v1457.toNat
def k0_dev40 (d0 : Dev nD) : Nat :=
  let c0_i32_1168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1167 : BitVec 32 := 16#32
  let v1477 : BitVec 32 := Scalar.muli v2 c16_i32_1167
  let v1478 : BitVec 32 := Scalar.addi c0_i32_1168 v1477
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1169 : BitVec 32 := 4#32
  let v1479 : BitVec 32 := Scalar.muli v5 c4_i32_1169
  let v1480 : BitVec 32 := Scalar.addi v1478 v1479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1156 : BitVec 32 := 2#32
  let v1466 : BitVec 32 := Scalar.addi v8 c2_i32_1156
  let c4_i32_1157 : BitVec 32 := 4#32
  let c0_i32_1158 : BitVec 32 := 0#32
  let v1467 : BitVec 1 := Scalar.cmpi .eq c4_i32_1157 c0_i32_1158
  let c1_i32_1159 : BitVec 32 := 1#32
  let v1468 : BitVec 32 := Scalar.select v1467 c1_i32_1159 c4_i32_1157
  let v1469 : BitVec 32 := Scalar.remsi v1466 v1468
  let c0_i32_1161 : BitVec 32 := 0#32
  let v1471 : BitVec 1 := Scalar.cmpi .slt v1469 c0_i32_1161
  let c0_i32_1162 : BitVec 32 := 0#32
  let v1472 : BitVec 1 := Scalar.cmpi .slt v1468 c0_i32_1162
  let v1473 : BitVec 1 := Scalar.xori v1471 v1472
  let c0_i32_1160 : BitVec 32 := 0#32
  let v1470 : BitVec 1 := Scalar.cmpi .ne v1469 c0_i32_1160
  let v1474 : BitVec 1 := Scalar.andi v1473 v1470
  let v1475 : BitVec 32 := Scalar.addi v1469 v1468
  let v1476 : BitVec 32 := Scalar.select v1474 v1475 v1469
  let c1_i32_1170 : BitVec 32 := 1#32
  let v1481 : BitVec 32 := Scalar.muli v1476 c1_i32_1170
  let v1482 : BitVec 32 := Scalar.addi v1480 v1481
  v1482.toNat
def k0_dev41 (d0 : Dev nD) : Nat :=
  let c0_i32_1187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1186 : BitVec 32 := 16#32
  let v1502 : BitVec 32 := Scalar.muli v2 c16_i32_1186
  let v1503 : BitVec 32 := Scalar.addi c0_i32_1187 v1502
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1188 : BitVec 32 := 4#32
  let v1504 : BitVec 32 := Scalar.muli v5 c4_i32_1188
  let v1505 : BitVec 32 := Scalar.addi v1503 v1504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1175 : BitVec 32 := 3#32
  let v1491 : BitVec 32 := Scalar.addi v8 c3_i32_1175
  let c4_i32_1176 : BitVec 32 := 4#32
  let c0_i32_1177 : BitVec 32 := 0#32
  let v1492 : BitVec 1 := Scalar.cmpi .eq c4_i32_1176 c0_i32_1177
  let c1_i32_1178 : BitVec 32 := 1#32
  let v1493 : BitVec 32 := Scalar.select v1492 c1_i32_1178 c4_i32_1176
  let v1494 : BitVec 32 := Scalar.remsi v1491 v1493
  let c0_i32_1180 : BitVec 32 := 0#32
  let v1496 : BitVec 1 := Scalar.cmpi .slt v1494 c0_i32_1180
  let c0_i32_1181 : BitVec 32 := 0#32
  let v1497 : BitVec 1 := Scalar.cmpi .slt v1493 c0_i32_1181
  let v1498 : BitVec 1 := Scalar.xori v1496 v1497
  let c0_i32_1179 : BitVec 32 := 0#32
  let v1495 : BitVec 1 := Scalar.cmpi .ne v1494 c0_i32_1179
  let v1499 : BitVec 1 := Scalar.andi v1498 v1495
  let v1500 : BitVec 32 := Scalar.addi v1494 v1493
  let v1501 : BitVec 32 := Scalar.select v1499 v1500 v1494
  let c1_i32_1189 : BitVec 32 := 1#32
  let v1506 : BitVec 32 := Scalar.muli v1501 c1_i32_1189
  let v1507 : BitVec 32 := Scalar.addi v1505 v1506
  v1507.toNat
def k0_dev42 (d0 : Dev nD) : Nat :=
  let c0_i32_1209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1208 : BitVec 32 := 16#32
  let v1529 : BitVec 32 := Scalar.muli v2 c16_i32_1208
  let v1530 : BitVec 32 := Scalar.addi c0_i32_1209 v1529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1197 : BitVec 32 := 1#32
  let v1518 : BitVec 32 := Scalar.addi v5 c1_i32_1197
  let c4_i32_1198 : BitVec 32 := 4#32
  let c0_i32_1199 : BitVec 32 := 0#32
  let v1519 : BitVec 1 := Scalar.cmpi .eq c4_i32_1198 c0_i32_1199
  let c1_i32_1200 : BitVec 32 := 1#32
  let v1520 : BitVec 32 := Scalar.select v1519 c1_i32_1200 c4_i32_1198
  let v1521 : BitVec 32 := Scalar.remsi v1518 v1520
  let c0_i32_1202 : BitVec 32 := 0#32
  let v1523 : BitVec 1 := Scalar.cmpi .slt v1521 c0_i32_1202
  let c0_i32_1203 : BitVec 32 := 0#32
  let v1524 : BitVec 1 := Scalar.cmpi .slt v1520 c0_i32_1203
  let v1525 : BitVec 1 := Scalar.xori v1523 v1524
  let c0_i32_1201 : BitVec 32 := 0#32
  let v1522 : BitVec 1 := Scalar.cmpi .ne v1521 c0_i32_1201
  let v1526 : BitVec 1 := Scalar.andi v1525 v1522
  let v1527 : BitVec 32 := Scalar.addi v1521 v1520
  let v1528 : BitVec 32 := Scalar.select v1526 v1527 v1521
  let c4_i32_1210 : BitVec 32 := 4#32
  let v1531 : BitVec 32 := Scalar.muli v1528 c4_i32_1210
  let v1532 : BitVec 32 := Scalar.addi v1530 v1531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1211 : BitVec 32 := 1#32
  let v1533 : BitVec 32 := Scalar.muli v8 c1_i32_1211
  let v1534 : BitVec 32 := Scalar.addi v1532 v1533
  v1534.toNat
def k0_dev43 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1554 : BitVec 32 := Scalar.muli v2 c16_i32_1227
  let v1555 : BitVec 32 := Scalar.addi c0_i32_1228 v1554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1216 : BitVec 32 := 2#32
  let v1543 : BitVec 32 := Scalar.addi v5 c2_i32_1216
  let c4_i32_1217 : BitVec 32 := 4#32
  let c0_i32_1218 : BitVec 32 := 0#32
  let v1544 : BitVec 1 := Scalar.cmpi .eq c4_i32_1217 c0_i32_1218
  let c1_i32_1219 : BitVec 32 := 1#32
  let v1545 : BitVec 32 := Scalar.select v1544 c1_i32_1219 c4_i32_1217
  let v1546 : BitVec 32 := Scalar.remsi v1543 v1545
  let c0_i32_1221 : BitVec 32 := 0#32
  let v1548 : BitVec 1 := Scalar.cmpi .slt v1546 c0_i32_1221
  let c0_i32_1222 : BitVec 32 := 0#32
  let v1549 : BitVec 1 := Scalar.cmpi .slt v1545 c0_i32_1222
  let v1550 : BitVec 1 := Scalar.xori v1548 v1549
  let c0_i32_1220 : BitVec 32 := 0#32
  let v1547 : BitVec 1 := Scalar.cmpi .ne v1546 c0_i32_1220
  let v1551 : BitVec 1 := Scalar.andi v1550 v1547
  let v1552 : BitVec 32 := Scalar.addi v1546 v1545
  let v1553 : BitVec 32 := Scalar.select v1551 v1552 v1546
  let c4_i32_1229 : BitVec 32 := 4#32
  let v1556 : BitVec 32 := Scalar.muli v1553 c4_i32_1229
  let v1557 : BitVec 32 := Scalar.addi v1555 v1556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1558 : BitVec 32 := Scalar.muli v8 c1_i32_1230
  let v1559 : BitVec 32 := Scalar.addi v1557 v1558
  v1559.toNat
def k0_dev44 (d0 : Dev nD) : Nat :=
  let c0_i32_1247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1246 : BitVec 32 := 16#32
  let v1579 : BitVec 32 := Scalar.muli v2 c16_i32_1246
  let v1580 : BitVec 32 := Scalar.addi c0_i32_1247 v1579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1235 : BitVec 32 := 3#32
  let v1568 : BitVec 32 := Scalar.addi v5 c3_i32_1235
  let c4_i32_1236 : BitVec 32 := 4#32
  let c0_i32_1237 : BitVec 32 := 0#32
  let v1569 : BitVec 1 := Scalar.cmpi .eq c4_i32_1236 c0_i32_1237
  let c1_i32_1238 : BitVec 32 := 1#32
  let v1570 : BitVec 32 := Scalar.select v1569 c1_i32_1238 c4_i32_1236
  let v1571 : BitVec 32 := Scalar.remsi v1568 v1570
  let c0_i32_1240 : BitVec 32 := 0#32
  let v1573 : BitVec 1 := Scalar.cmpi .slt v1571 c0_i32_1240
  let c0_i32_1241 : BitVec 32 := 0#32
  let v1574 : BitVec 1 := Scalar.cmpi .slt v1570 c0_i32_1241
  let v1575 : BitVec 1 := Scalar.xori v1573 v1574
  let c0_i32_1239 : BitVec 32 := 0#32
  let v1572 : BitVec 1 := Scalar.cmpi .ne v1571 c0_i32_1239
  let v1576 : BitVec 1 := Scalar.andi v1575 v1572
  let v1577 : BitVec 32 := Scalar.addi v1571 v1570
  let v1578 : BitVec 32 := Scalar.select v1576 v1577 v1571
  let c4_i32_1248 : BitVec 32 := 4#32
  let v1581 : BitVec 32 := Scalar.muli v1578 c4_i32_1248
  let v1582 : BitVec 32 := Scalar.addi v1580 v1581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1583 : BitVec 32 := Scalar.muli v8 c1_i32_1249
  let v1584 : BitVec 32 := Scalar.addi v1582 v1583
  v1584.toNat
def k0_off7 (d0 : Dev nD) (c0_i32_73 : BitVec 32) (c4_i32_0 : BitVec 32) (c1_i32 : BitVec 32) (c1_i32_1380 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c256_i32 : BitVec 32 := 256#32
  let v113 : BitVec 32 := Scalar.muli v5 c256_i32
  let v114 : BitVec 32 := Scalar.addi c0_i32_73 v113
  let v6 : BitVec 32 := Dev.word d0
  let v7 : BitVec 32 := Scalar.divsi v6 c1_i32
  let c4_i32_1 : BitVec 32 := 4#32
  let v8 : BitVec 32 := Scalar.remsi v7 c4_i32_1
  let v1701 : BitVec 32 := Scalar.subi v8 c1_i32_1380
  let c4_i32_1381 : BitVec 32 := 4#32
  let c0_i32_1382 : BitVec 32 := 0#32
  let v1702 : BitVec 1 := Scalar.cmpi .eq c4_i32_1381 c0_i32_1382
  let c1_i32_1383 : BitVec 32 := 1#32
  let v1703 : BitVec 32 := Scalar.select v1702 c1_i32_1383 c4_i32_1381
  let v1704 : BitVec 32 := Scalar.remsi v1701 v1703
  let c0_i32_1385 : BitVec 32 := 0#32
  let v1706 : BitVec 1 := Scalar.cmpi .slt v1704 c0_i32_1385
  let c0_i32_1386 : BitVec 32 := 0#32
  let v1707 : BitVec 1 := Scalar.cmpi .slt v1703 c0_i32_1386
  let v1708 : BitVec 1 := Scalar.xori v1706 v1707
  let c0_i32_1384 : BitVec 32 := 0#32
  let v1705 : BitVec 1 := Scalar.cmpi .ne v1704 c0_i32_1384
  let v1709 : BitVec 1 := Scalar.andi v1708 v1705
  let v1710 : BitVec 32 := Scalar.addi v1704 v1703
  let v1711 : BitVec 32 := Scalar.select v1709 v1710 v1704
  let c64_i32_1390 : BitVec 32 := 64#32
  let v1715 : BitVec 32 := Scalar.muli v1711 c64_i32_1390
  let v1716 : BitVec 32 := Scalar.addi v114 v1715
  let v1717 : Index := Scalar.indexCast v1716
  let c0_1391 : Index := 0#32
  ![v1717.toNat, 0]
def k0_off7_at (r : Fin 6) : BitVec 32 × BitVec 32 × BitVec 32 × BitVec 32 :=
  if r.val < 3 then
    if r.val < 1 then
      (0#32, 4#32, 1#32, 1#32)
    else
      if r.val < 2 then
        (0#32, 4#32, 1#32, 2#32)
      else
        (0#32, 4#32, 1#32, 3#32)
  else
    if r.val < 4 then
      (1024#32, 1#32, 4#32, 1#32)
    else
      if r.val < 5 then
        (1024#32, 1#32, 4#32, 2#32)
      else
        (1024#32, 1#32, 4#32, 3#32)
def k0_dev45 (d0 : Dev nD) : Nat :=
  let c0_i32_1454 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1453 : BitVec 32 := 16#32
  let v1811 : BitVec 32 := Scalar.muli v2 c16_i32_1453
  let v1812 : BitVec 32 := Scalar.addi c0_i32_1454 v1811
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v119 : BitVec 32 := Scalar.addi v5 c1_i32_74
  let c4_i32_75 : BitVec 32 := 4#32
  let c0_i32_76 : BitVec 32 := 0#32
  let v120 : BitVec 1 := Scalar.cmpi .eq c4_i32_75 c0_i32_76
  let c1_i32_77 : BitVec 32 := 1#32
  let v121 : BitVec 32 := Scalar.select v120 c1_i32_77 c4_i32_75
  let v122 : BitVec 32 := Scalar.remsi v119 v121
  let c0_i32_79 : BitVec 32 := 0#32
  let v124 : BitVec 1 := Scalar.cmpi .slt v122 c0_i32_79
  let c0_i32_80 : BitVec 32 := 0#32
  let v125 : BitVec 1 := Scalar.cmpi .slt v121 c0_i32_80
  let v126 : BitVec 1 := Scalar.xori v124 v125
  let c0_i32_78 : BitVec 32 := 0#32
  let v123 : BitVec 1 := Scalar.cmpi .ne v122 c0_i32_78
  let v127 : BitVec 1 := Scalar.andi v126 v123
  let v128 : BitVec 32 := Scalar.addi v122 v121
  let v129 : BitVec 32 := Scalar.select v127 v128 v122
  let c4_i32_1455 : BitVec 32 := 4#32
  let v1813 : BitVec 32 := Scalar.muli v129 c4_i32_1455
  let v1814 : BitVec 32 := Scalar.addi v1812 v1813
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1456 : BitVec 32 := 1#32
  let v1815 : BitVec 32 := Scalar.muli v8 c1_i32_1456
  let v1816 : BitVec 32 := Scalar.addi v1814 v1815
  v1816.toNat
def k0_dev46 (d0 : Dev nD) : Nat :=
  let c0_i32_1460 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1459 : BitVec 32 := 16#32
  let v1819 : BitVec 32 := Scalar.muli v2 c16_i32_1459
  let v1820 : BitVec 32 := Scalar.addi c0_i32_1460 v1819
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_81 : BitVec 32 := 2#32
  let v130 : BitVec 32 := Scalar.addi v5 c2_i32_81
  let c4_i32_82 : BitVec 32 := 4#32
  let c0_i32_83 : BitVec 32 := 0#32
  let v131 : BitVec 1 := Scalar.cmpi .eq c4_i32_82 c0_i32_83
  let c1_i32_84 : BitVec 32 := 1#32
  let v132 : BitVec 32 := Scalar.select v131 c1_i32_84 c4_i32_82
  let v133 : BitVec 32 := Scalar.remsi v130 v132
  let c0_i32_86 : BitVec 32 := 0#32
  let v135 : BitVec 1 := Scalar.cmpi .slt v133 c0_i32_86
  let c0_i32_87 : BitVec 32 := 0#32
  let v136 : BitVec 1 := Scalar.cmpi .slt v132 c0_i32_87
  let v137 : BitVec 1 := Scalar.xori v135 v136
  let c0_i32_85 : BitVec 32 := 0#32
  let v134 : BitVec 1 := Scalar.cmpi .ne v133 c0_i32_85
  let v138 : BitVec 1 := Scalar.andi v137 v134
  let v139 : BitVec 32 := Scalar.addi v133 v132
  let v140 : BitVec 32 := Scalar.select v138 v139 v133
  let c4_i32_1461 : BitVec 32 := 4#32
  let v1821 : BitVec 32 := Scalar.muli v140 c4_i32_1461
  let v1822 : BitVec 32 := Scalar.addi v1820 v1821
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1462 : BitVec 32 := 1#32
  let v1823 : BitVec 32 := Scalar.muli v8 c1_i32_1462
  let v1824 : BitVec 32 := Scalar.addi v1822 v1823
  v1824.toNat
def k0_dev47 (d0 : Dev nD) : Nat :=
  let c0_i32_1466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1465 : BitVec 32 := 16#32
  let v1827 : BitVec 32 := Scalar.muli v2 c16_i32_1465
  let v1828 : BitVec 32 := Scalar.addi c0_i32_1466 v1827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_88 : BitVec 32 := 3#32
  let v141 : BitVec 32 := Scalar.addi v5 c3_i32_88
  let c4_i32_89 : BitVec 32 := 4#32
  let c0_i32_90 : BitVec 32 := 0#32
  let v142 : BitVec 1 := Scalar.cmpi .eq c4_i32_89 c0_i32_90
  let c1_i32_91 : BitVec 32 := 1#32
  let v143 : BitVec 32 := Scalar.select v142 c1_i32_91 c4_i32_89
  let v144 : BitVec 32 := Scalar.remsi v141 v143
  let c0_i32_93 : BitVec 32 := 0#32
  let v146 : BitVec 1 := Scalar.cmpi .slt v144 c0_i32_93
  let c0_i32_94 : BitVec 32 := 0#32
  let v147 : BitVec 1 := Scalar.cmpi .slt v143 c0_i32_94
  let v148 : BitVec 1 := Scalar.xori v146 v147
  let c0_i32_92 : BitVec 32 := 0#32
  let v145 : BitVec 1 := Scalar.cmpi .ne v144 c0_i32_92
  let v149 : BitVec 1 := Scalar.andi v148 v145
  let v150 : BitVec 32 := Scalar.addi v144 v143
  let v151 : BitVec 32 := Scalar.select v149 v150 v144
  let c4_i32_1467 : BitVec 32 := 4#32
  let v1829 : BitVec 32 := Scalar.muli v151 c4_i32_1467
  let v1830 : BitVec 32 := Scalar.addi v1828 v1829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1468 : BitVec 32 := 1#32
  let v1831 : BitVec 32 := Scalar.muli v8 c1_i32_1468
  let v1832 : BitVec 32 := Scalar.addi v1830 v1831
  v1832.toNat
def k0_dev48 (d0 : Dev nD) : Nat :=
  let c0_i32_1472 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1471 : BitVec 32 := 16#32
  let v1835 : BitVec 32 := Scalar.muli v2 c16_i32_1471
  let v1836 : BitVec 32 := Scalar.addi c0_i32_1472 v1835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1473 : BitVec 32 := 4#32
  let v1837 : BitVec 32 := Scalar.muli v5 c4_i32_1473
  let v1838 : BitVec 32 := Scalar.addi v1836 v1837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v191 : BitVec 32 := Scalar.addi v8 c1_i32_119
  let c4_i32_120 : BitVec 32 := 4#32
  let c0_i32_121 : BitVec 32 := 0#32
  let v192 : BitVec 1 := Scalar.cmpi .eq c4_i32_120 c0_i32_121
  let c1_i32_122 : BitVec 32 := 1#32
  let v193 : BitVec 32 := Scalar.select v192 c1_i32_122 c4_i32_120
  let v194 : BitVec 32 := Scalar.remsi v191 v193
  let c0_i32_124 : BitVec 32 := 0#32
  let v196 : BitVec 1 := Scalar.cmpi .slt v194 c0_i32_124
  let c0_i32_125 : BitVec 32 := 0#32
  let v197 : BitVec 1 := Scalar.cmpi .slt v193 c0_i32_125
  let v198 : BitVec 1 := Scalar.xori v196 v197
  let c0_i32_123 : BitVec 32 := 0#32
  let v195 : BitVec 1 := Scalar.cmpi .ne v194 c0_i32_123
  let v199 : BitVec 1 := Scalar.andi v198 v195
  let v200 : BitVec 32 := Scalar.addi v194 v193
  let v201 : BitVec 32 := Scalar.select v199 v200 v194
  let c1_i32_1474 : BitVec 32 := 1#32
  let v1839 : BitVec 32 := Scalar.muli v201 c1_i32_1474
  let v1840 : BitVec 32 := Scalar.addi v1838 v1839
  v1840.toNat
def k0_dev49 (d0 : Dev nD) : Nat :=
  let c0_i32_1478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1477 : BitVec 32 := 16#32
  let v1843 : BitVec 32 := Scalar.muli v2 c16_i32_1477
  let v1844 : BitVec 32 := Scalar.addi c0_i32_1478 v1843
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1479 : BitVec 32 := 4#32
  let v1845 : BitVec 32 := Scalar.muli v5 c4_i32_1479
  let v1846 : BitVec 32 := Scalar.addi v1844 v1845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_126 : BitVec 32 := 2#32
  let v202 : BitVec 32 := Scalar.addi v8 c2_i32_126
  let c4_i32_127 : BitVec 32 := 4#32
  let c0_i32_128 : BitVec 32 := 0#32
  let v203 : BitVec 1 := Scalar.cmpi .eq c4_i32_127 c0_i32_128
  let c1_i32_129 : BitVec 32 := 1#32
  let v204 : BitVec 32 := Scalar.select v203 c1_i32_129 c4_i32_127
  let v205 : BitVec 32 := Scalar.remsi v202 v204
  let c0_i32_131 : BitVec 32 := 0#32
  let v207 : BitVec 1 := Scalar.cmpi .slt v205 c0_i32_131
  let c0_i32_132 : BitVec 32 := 0#32
  let v208 : BitVec 1 := Scalar.cmpi .slt v204 c0_i32_132
  let v209 : BitVec 1 := Scalar.xori v207 v208
  let c0_i32_130 : BitVec 32 := 0#32
  let v206 : BitVec 1 := Scalar.cmpi .ne v205 c0_i32_130
  let v210 : BitVec 1 := Scalar.andi v209 v206
  let v211 : BitVec 32 := Scalar.addi v205 v204
  let v212 : BitVec 32 := Scalar.select v210 v211 v205
  let c1_i32_1480 : BitVec 32 := 1#32
  let v1847 : BitVec 32 := Scalar.muli v212 c1_i32_1480
  let v1848 : BitVec 32 := Scalar.addi v1846 v1847
  v1848.toNat
def k0_dev50 (d0 : Dev nD) : Nat :=
  let c0_i32_1484 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1483 : BitVec 32 := 16#32
  let v1851 : BitVec 32 := Scalar.muli v2 c16_i32_1483
  let v1852 : BitVec 32 := Scalar.addi c0_i32_1484 v1851
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1485 : BitVec 32 := 4#32
  let v1853 : BitVec 32 := Scalar.muli v5 c4_i32_1485
  let v1854 : BitVec 32 := Scalar.addi v1852 v1853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_133 : BitVec 32 := 3#32
  let v213 : BitVec 32 := Scalar.addi v8 c3_i32_133
  let c4_i32_134 : BitVec 32 := 4#32
  let c0_i32_135 : BitVec 32 := 0#32
  let v214 : BitVec 1 := Scalar.cmpi .eq c4_i32_134 c0_i32_135
  let c1_i32_136 : BitVec 32 := 1#32
  let v215 : BitVec 32 := Scalar.select v214 c1_i32_136 c4_i32_134
  let v216 : BitVec 32 := Scalar.remsi v213 v215
  let c0_i32_138 : BitVec 32 := 0#32
  let v218 : BitVec 1 := Scalar.cmpi .slt v216 c0_i32_138
  let c0_i32_139 : BitVec 32 := 0#32
  let v219 : BitVec 1 := Scalar.cmpi .slt v215 c0_i32_139
  let v220 : BitVec 1 := Scalar.xori v218 v219
  let c0_i32_137 : BitVec 32 := 0#32
  let v217 : BitVec 1 := Scalar.cmpi .ne v216 c0_i32_137
  let v221 : BitVec 1 := Scalar.andi v220 v217
  let v222 : BitVec 32 := Scalar.addi v216 v215
  let v223 : BitVec 32 := Scalar.select v221 v222 v216
  let c1_i32_1486 : BitVec 32 := 1#32
  let v1855 : BitVec 32 := Scalar.muli v223 c1_i32_1486
  let v1856 : BitVec 32 := Scalar.addi v1854 v1855
  v1856.toNat
def k0_dev51 (d0 : Dev nD) : Nat :=
  let c0_i32_1514 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1513 : BitVec 32 := 16#32
  let v1888 : BitVec 32 := Scalar.muli v2 c16_i32_1513
  let v1889 : BitVec 32 := Scalar.addi c0_i32_1514 v1888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1502 : BitVec 32 := 1#32
  let v1877 : BitVec 32 := Scalar.addi v5 c1_i32_1502
  let c4_i32_1503 : BitVec 32 := 4#32
  let c0_i32_1504 : BitVec 32 := 0#32
  let v1878 : BitVec 1 := Scalar.cmpi .eq c4_i32_1503 c0_i32_1504
  let c1_i32_1505 : BitVec 32 := 1#32
  let v1879 : BitVec 32 := Scalar.select v1878 c1_i32_1505 c4_i32_1503
  let v1880 : BitVec 32 := Scalar.remsi v1877 v1879
  let c0_i32_1507 : BitVec 32 := 0#32
  let v1882 : BitVec 1 := Scalar.cmpi .slt v1880 c0_i32_1507
  let c0_i32_1508 : BitVec 32 := 0#32
  let v1883 : BitVec 1 := Scalar.cmpi .slt v1879 c0_i32_1508
  let v1884 : BitVec 1 := Scalar.xori v1882 v1883
  let c0_i32_1506 : BitVec 32 := 0#32
  let v1881 : BitVec 1 := Scalar.cmpi .ne v1880 c0_i32_1506
  let v1885 : BitVec 1 := Scalar.andi v1884 v1881
  let v1886 : BitVec 32 := Scalar.addi v1880 v1879
  let v1887 : BitVec 32 := Scalar.select v1885 v1886 v1880
  let c4_i32_1515 : BitVec 32 := 4#32
  let v1890 : BitVec 32 := Scalar.muli v1887 c4_i32_1515
  let v1891 : BitVec 32 := Scalar.addi v1889 v1890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1516 : BitVec 32 := 1#32
  let v1892 : BitVec 32 := Scalar.muli v8 c1_i32_1516
  let v1893 : BitVec 32 := Scalar.addi v1891 v1892
  v1893.toNat
def k0_dev52 (d0 : Dev nD) : Nat :=
  let c0_i32_1533 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1532 : BitVec 32 := 16#32
  let v1913 : BitVec 32 := Scalar.muli v2 c16_i32_1532
  let v1914 : BitVec 32 := Scalar.addi c0_i32_1533 v1913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1521 : BitVec 32 := 2#32
  let v1902 : BitVec 32 := Scalar.addi v5 c2_i32_1521
  let c4_i32_1522 : BitVec 32 := 4#32
  let c0_i32_1523 : BitVec 32 := 0#32
  let v1903 : BitVec 1 := Scalar.cmpi .eq c4_i32_1522 c0_i32_1523
  let c1_i32_1524 : BitVec 32 := 1#32
  let v1904 : BitVec 32 := Scalar.select v1903 c1_i32_1524 c4_i32_1522
  let v1905 : BitVec 32 := Scalar.remsi v1902 v1904
  let c0_i32_1526 : BitVec 32 := 0#32
  let v1907 : BitVec 1 := Scalar.cmpi .slt v1905 c0_i32_1526
  let c0_i32_1527 : BitVec 32 := 0#32
  let v1908 : BitVec 1 := Scalar.cmpi .slt v1904 c0_i32_1527
  let v1909 : BitVec 1 := Scalar.xori v1907 v1908
  let c0_i32_1525 : BitVec 32 := 0#32
  let v1906 : BitVec 1 := Scalar.cmpi .ne v1905 c0_i32_1525
  let v1910 : BitVec 1 := Scalar.andi v1909 v1906
  let v1911 : BitVec 32 := Scalar.addi v1905 v1904
  let v1912 : BitVec 32 := Scalar.select v1910 v1911 v1905
  let c4_i32_1534 : BitVec 32 := 4#32
  let v1915 : BitVec 32 := Scalar.muli v1912 c4_i32_1534
  let v1916 : BitVec 32 := Scalar.addi v1914 v1915
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1535 : BitVec 32 := 1#32
  let v1917 : BitVec 32 := Scalar.muli v8 c1_i32_1535
  let v1918 : BitVec 32 := Scalar.addi v1916 v1917
  v1918.toNat
def k0_dev53 (d0 : Dev nD) : Nat :=
  let c0_i32_1552 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1551 : BitVec 32 := 16#32
  let v1938 : BitVec 32 := Scalar.muli v2 c16_i32_1551
  let v1939 : BitVec 32 := Scalar.addi c0_i32_1552 v1938
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1540 : BitVec 32 := 3#32
  let v1927 : BitVec 32 := Scalar.addi v5 c3_i32_1540
  let c4_i32_1541 : BitVec 32 := 4#32
  let c0_i32_1542 : BitVec 32 := 0#32
  let v1928 : BitVec 1 := Scalar.cmpi .eq c4_i32_1541 c0_i32_1542
  let c1_i32_1543 : BitVec 32 := 1#32
  let v1929 : BitVec 32 := Scalar.select v1928 c1_i32_1543 c4_i32_1541
  let v1930 : BitVec 32 := Scalar.remsi v1927 v1929
  let c0_i32_1545 : BitVec 32 := 0#32
  let v1932 : BitVec 1 := Scalar.cmpi .slt v1930 c0_i32_1545
  let c0_i32_1546 : BitVec 32 := 0#32
  let v1933 : BitVec 1 := Scalar.cmpi .slt v1929 c0_i32_1546
  let v1934 : BitVec 1 := Scalar.xori v1932 v1933
  let c0_i32_1544 : BitVec 32 := 0#32
  let v1931 : BitVec 1 := Scalar.cmpi .ne v1930 c0_i32_1544
  let v1935 : BitVec 1 := Scalar.andi v1934 v1931
  let v1936 : BitVec 32 := Scalar.addi v1930 v1929
  let v1937 : BitVec 32 := Scalar.select v1935 v1936 v1930
  let c4_i32_1553 : BitVec 32 := 4#32
  let v1940 : BitVec 32 := Scalar.muli v1937 c4_i32_1553
  let v1941 : BitVec 32 := Scalar.addi v1939 v1940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1554 : BitVec 32 := 1#32
  let v1942 : BitVec 32 := Scalar.muli v8 c1_i32_1554
  let v1943 : BitVec 32 := Scalar.addi v1941 v1942
  v1943.toNat
def k0_dev54 (d0 : Dev nD) : Nat :=
  let c0_i32_1574 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1573 : BitVec 32 := 16#32
  let v1965 : BitVec 32 := Scalar.muli v2 c16_i32_1573
  let v1966 : BitVec 32 := Scalar.addi c0_i32_1574 v1965
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1575 : BitVec 32 := 4#32
  let v1967 : BitVec 32 := Scalar.muli v5 c4_i32_1575
  let v1968 : BitVec 32 := Scalar.addi v1966 v1967
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1562 : BitVec 32 := 1#32
  let v1954 : BitVec 32 := Scalar.addi v8 c1_i32_1562
  let c4_i32_1563 : BitVec 32 := 4#32
  let c0_i32_1564 : BitVec 32 := 0#32
  let v1955 : BitVec 1 := Scalar.cmpi .eq c4_i32_1563 c0_i32_1564
  let c1_i32_1565 : BitVec 32 := 1#32
  let v1956 : BitVec 32 := Scalar.select v1955 c1_i32_1565 c4_i32_1563
  let v1957 : BitVec 32 := Scalar.remsi v1954 v1956
  let c0_i32_1567 : BitVec 32 := 0#32
  let v1959 : BitVec 1 := Scalar.cmpi .slt v1957 c0_i32_1567
  let c0_i32_1568 : BitVec 32 := 0#32
  let v1960 : BitVec 1 := Scalar.cmpi .slt v1956 c0_i32_1568
  let v1961 : BitVec 1 := Scalar.xori v1959 v1960
  let c0_i32_1566 : BitVec 32 := 0#32
  let v1958 : BitVec 1 := Scalar.cmpi .ne v1957 c0_i32_1566
  let v1962 : BitVec 1 := Scalar.andi v1961 v1958
  let v1963 : BitVec 32 := Scalar.addi v1957 v1956
  let v1964 : BitVec 32 := Scalar.select v1962 v1963 v1957
  let c1_i32_1576 : BitVec 32 := 1#32
  let v1969 : BitVec 32 := Scalar.muli v1964 c1_i32_1576
  let v1970 : BitVec 32 := Scalar.addi v1968 v1969
  v1970.toNat
def k0_dev55 (d0 : Dev nD) : Nat :=
  let c0_i32_1593 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1592 : BitVec 32 := 16#32
  let v1990 : BitVec 32 := Scalar.muli v2 c16_i32_1592
  let v1991 : BitVec 32 := Scalar.addi c0_i32_1593 v1990
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1594 : BitVec 32 := 4#32
  let v1992 : BitVec 32 := Scalar.muli v5 c4_i32_1594
  let v1993 : BitVec 32 := Scalar.addi v1991 v1992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1581 : BitVec 32 := 2#32
  let v1979 : BitVec 32 := Scalar.addi v8 c2_i32_1581
  let c4_i32_1582 : BitVec 32 := 4#32
  let c0_i32_1583 : BitVec 32 := 0#32
  let v1980 : BitVec 1 := Scalar.cmpi .eq c4_i32_1582 c0_i32_1583
  let c1_i32_1584 : BitVec 32 := 1#32
  let v1981 : BitVec 32 := Scalar.select v1980 c1_i32_1584 c4_i32_1582
  let v1982 : BitVec 32 := Scalar.remsi v1979 v1981
  let c0_i32_1586 : BitVec 32 := 0#32
  let v1984 : BitVec 1 := Scalar.cmpi .slt v1982 c0_i32_1586
  let c0_i32_1587 : BitVec 32 := 0#32
  let v1985 : BitVec 1 := Scalar.cmpi .slt v1981 c0_i32_1587
  let v1986 : BitVec 1 := Scalar.xori v1984 v1985
  let c0_i32_1585 : BitVec 32 := 0#32
  let v1983 : BitVec 1 := Scalar.cmpi .ne v1982 c0_i32_1585
  let v1987 : BitVec 1 := Scalar.andi v1986 v1983
  let v1988 : BitVec 32 := Scalar.addi v1982 v1981
  let v1989 : BitVec 32 := Scalar.select v1987 v1988 v1982
  let c1_i32_1595 : BitVec 32 := 1#32
  let v1994 : BitVec 32 := Scalar.muli v1989 c1_i32_1595
  let v1995 : BitVec 32 := Scalar.addi v1993 v1994
  v1995.toNat
def k0_dev56 (d0 : Dev nD) : Nat :=
  let c0_i32_1612 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1611 : BitVec 32 := 16#32
  let v2015 : BitVec 32 := Scalar.muli v2 c16_i32_1611
  let v2016 : BitVec 32 := Scalar.addi c0_i32_1612 v2015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1613 : BitVec 32 := 4#32
  let v2017 : BitVec 32 := Scalar.muli v5 c4_i32_1613
  let v2018 : BitVec 32 := Scalar.addi v2016 v2017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1600 : BitVec 32 := 3#32
  let v2004 : BitVec 32 := Scalar.addi v8 c3_i32_1600
  let c4_i32_1601 : BitVec 32 := 4#32
  let c0_i32_1602 : BitVec 32 := 0#32
  let v2005 : BitVec 1 := Scalar.cmpi .eq c4_i32_1601 c0_i32_1602
  let c1_i32_1603 : BitVec 32 := 1#32
  let v2006 : BitVec 32 := Scalar.select v2005 c1_i32_1603 c4_i32_1601
  let v2007 : BitVec 32 := Scalar.remsi v2004 v2006
  let c0_i32_1605 : BitVec 32 := 0#32
  let v2009 : BitVec 1 := Scalar.cmpi .slt v2007 c0_i32_1605
  let c0_i32_1606 : BitVec 32 := 0#32
  let v2010 : BitVec 1 := Scalar.cmpi .slt v2006 c0_i32_1606
  let v2011 : BitVec 1 := Scalar.xori v2009 v2010
  let c0_i32_1604 : BitVec 32 := 0#32
  let v2008 : BitVec 1 := Scalar.cmpi .ne v2007 c0_i32_1604
  let v2012 : BitVec 1 := Scalar.andi v2011 v2008
  let v2013 : BitVec 32 := Scalar.addi v2007 v2006
  let v2014 : BitVec 32 := Scalar.select v2012 v2013 v2007
  let c1_i32_1614 : BitVec 32 := 1#32
  let v2019 : BitVec 32 := Scalar.muli v2014 c1_i32_1614
  let v2020 : BitVec 32 := Scalar.addi v2018 v2019
  v2020.toNat
def k0_off8 (d0 : Dev nD) (c0_i32_1756 : BitVec 32) (c4_i32_0 : BitVec 32) (c1_i32_1745 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let v2137 : BitVec 32 := Scalar.subi v5 c1_i32_1745
  let c4_i32_1746 : BitVec 32 := 4#32
  let c0_i32_1747 : BitVec 32 := 0#32
  let v2138 : BitVec 1 := Scalar.cmpi .eq c4_i32_1746 c0_i32_1747
  let c1_i32_1748 : BitVec 32 := 1#32
  let v2139 : BitVec 32 := Scalar.select v2138 c1_i32_1748 c4_i32_1746
  let v2140 : BitVec 32 := Scalar.remsi v2137 v2139
  let c0_i32_1750 : BitVec 32 := 0#32
  let v2142 : BitVec 1 := Scalar.cmpi .slt v2140 c0_i32_1750
  let c0_i32_1751 : BitVec 32 := 0#32
  let v2143 : BitVec 1 := Scalar.cmpi .slt v2139 c0_i32_1751
  let v2144 : BitVec 1 := Scalar.xori v2142 v2143
  let c0_i32_1749 : BitVec 32 := 0#32
  let v2141 : BitVec 1 := Scalar.cmpi .ne v2140 c0_i32_1749
  let v2145 : BitVec 1 := Scalar.andi v2144 v2141
  let v2146 : BitVec 32 := Scalar.addi v2140 v2139
  let v2147 : BitVec 32 := Scalar.select v2145 v2146 v2140
  let c256_i32_1755 : BitVec 32 := 256#32
  let v2151 : BitVec 32 := Scalar.muli v2147 c256_i32_1755
  let v2152 : BitVec 32 := Scalar.addi c0_i32_1756 v2151
  let v2153 : Index := Scalar.indexCast v2152
  let c0_1757 : Index := 0#32
  ![v2153.toNat, 0]
def k0_off8_at (r : Fin 6) : BitVec 32 × BitVec 32 × BitVec 32 :=
  if r.val < 3 then
    if r.val < 1 then
      (0#32, 4#32, 1#32)
    else
      if r.val < 2 then
        (0#32, 4#32, 2#32)
      else
        (0#32, 4#32, 3#32)
  else
    if r.val < 4 then
      (1024#32, 1#32, 1#32)
    else
      if r.val < 5 then
        (1024#32, 1#32, 2#32)
      else
        (1024#32, 1#32, 3#32)
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S2x4x4x2048x1024 : Shape := ⟨5, ![2, 4, 4, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S2x4x4x2048x1024, .bf16⟩
  | .hbm, ⟨2, _⟩ => ⟨S2x4x4x2048x1024, .f32⟩
  | .hbm, ⟨3, _⟩ => ⟨S_, .f32⟩
  | .hbm, ⟨4, _⟩ => ⟨S2048x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Prog.lean ====
/-
The kernel body, rewritten as one program over its two halves and six phases.

The printed body is one long list of operations. Here the same list is a handful of definitions, each taking
what follows it as its last argument: a phase copies rows into the send buffer (`stages`), waits for the grants
of the devices it sends to, starts its copies, waits for them, writes what arrived into the result (`consume`)
and grants its receive buffer to the senders of the next phase. `body_eq` says the printed body is that program.
-/
module

public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen
open Idealize.ShloMosaic Idealize.SL.Sem

variable {F : FTy → Type} [FloatOps F]

/-- The result's upper 1024 rows (`a`) and lower 1024 rows (`b`), reduced by two independent pipelines. -/
inductive Half | a | b
  deriving DecidableEq

instance : Fintype Half := ⟨{.a, .b}, fun h => by cases h <;> decide⟩

/-- The row counts a copy moves. -/
def Ok (n : ℕ) : Prop := n = 256 ∨ n = 64 ∨ n = 32

theorem ok256 : Ok 256 := .inl rfl
theorem ok64 : Ok 64 := .inr (.inl rfl)
theorem ok32 : Ok 32 := .inr (.inr rfl)

/-- A block of `n` rows, flat and as one slot of a transfer buffer. -/
abbrev B2 (n : ℕ) : Shape := ⟨2, ![n, 1024]⟩
abbrev B3 (n : ℕ) : Shape := ⟨3, ![1, n, 1024]⟩

section Facts
variable {n : ℕ} (h : Ok n)
include h

theorem pos2 : 0 < (B2 n).numel := by rcases h with rfl | rfl | rfl <;> decide
theorem pos3 : 0 < (B3 n).numel := by rcases h with rfl | rfl | rfl <;> decide
theorem inb3 (j : Fin 3) : ∀ a, (![j.val, 0, 0] : Fin 3 → Nat) a + (B3 n).size a ≤ S3x256x1024.size a := by
  rcases h with rfl | rfl | rfl <;> revert j <;> decide
theorem packed3 (j : Fin 3) : (Rect.unit (s := S3x256x1024) ![j.val, 0, 0] (B3 n).size (inb3 h j)).PackedRows (EltTy.packing .bf16) := by
  rcases h with rfl | rfl | rfl <;> revert j <;> decide
theorem words3 (j : Fin 3) : (Rect.unit (s := S3x256x1024) ![j.val, 0, 0] (B3 n).size (inb3 h j)).WholeWords (EltTy.packing .bf16) := by
  rcases h with rfl | rfl | rfl <;> revert j <;> decide
theorem squeezes3 : (B3 n).Squeezes (B2 n) := by rcases h with rfl | rfl | rfl <;> decide
theorem casts22 : (B2 n).ShapeCasts (B2 n) := by rcases h with rfl | rfl | rfl <;> decide
theorem casts23 : (B2 n).ShapeCasts (B3 n) := by rcases h with rfl | rfl | rfl <;> decide
theorem casts32 : (B3 n).ShapeCasts (B2 n) := by rcases h with rfl | rfl | rfl <;> decide

end Facts

/-! ## Buffers, semaphores and rectangles -/

abbrev xM : Memref sig .tc .vmem S2048x1024 .bf16 := Memref.whole cc0_stg0_0
abbrev oM : Memref sig .tc .vmem S2048x1024 .f32 := Memref.whole cc0_stg1_0

def sendB : Half → Ref sig .tc | .a => cc0_scratch0 | .b => cc0_scratch2
def recvB : Half → Ref sig .tc | .a => cc0_scratch1 | .b => cc0_scratch3
def sendM : Half → Memref sig .tc .vmem S3x256x1024 .bf16 | .a => Memref.whole cc0_scratch0 | .b => Memref.whole cc0_scratch2
def recvM : Half → Memref sig .tc .vmem S3x256x1024 .bf16 | .a => Memref.whole cc0_scratch1 | .b => Memref.whole cc0_scratch3
theorem sendM_whole : ∀ h, (sendM h).IsWhole | .a => Memref.isWhole_whole _ | .b => Memref.isWhole_whole _
theorem recvM_whole : ∀ h, (recvM h).IsWhole | .a => Memref.isWhole_whole _ | .b => Memref.isWhole_whole _

def ssA : Half → DmaSems sig S3 | .a => cc0_scratch4 | .b => cc0_scratch6
def rsA : Half → DmaSems sig S3 | .a => cc0_scratch5 | .b => cc0_scratch7
def crA : Half → Sems sig S6 | .a => cc0_scratch8 | .b => cc0_scratch9

theorem inbS3 (j : Fin 3) : ∀ a, (![j.val] : Fin 1 → Nat) a + S1.size a ≤ S3.size a := by revert j; decide
theorem inbS6 (i : Fin 6) : ∀ a, (![i.val] : Fin 1 → Nat) a + S1.size a ≤ S6.size a := by revert i; decide

/-- The semaphore of slot `j` of a transfer array, and of phase `i` of the grant array. -/
def semJ (A : DmaSems sig S3) (j : Fin 3) : DmaSem sig := ((A.slice (Rect.unit (s := S3) ![j.val] S1.size (inbS3 j))).squeeze S_ squeezes_S1_S_).sem
def semC (A : Sems sig S6) (i : Fin 6) : Sem sig := ((A.slice (Rect.unit (s := S6) ![i.val] S1.size (inbS6 i))).squeeze S_ squeezes_S1_S_).sem
def barS : Sem sig := (SemArray.scalar (sig.barrier 0 rfl) : Sems sig S_).sem

/-- The first `n` rows of slot `j` of a transfer buffer: as a rectangle, and as the flat block a copy moves. -/
abbrev slotR {n : ℕ} (h : Ok n) (j : Fin 3) : Rect S3x256x1024 := Rect.unit (s := S3x256x1024) ![j.val, 0, 0] (B3 n).size (inb3 h j)
abbrev slotM (m : Memref sig .tc .vmem S3x256x1024 .bf16) {n : ℕ} (h : Ok n) (j : Fin 3) : Memref sig .tc .vmem (B2 n) .bf16 :=
  (m.slice (slotR h j) (fun _ => rfl)).squeeze (B2 n) (squeezes3 h)

/-- `n` rows of a 2048-row array, from the row `row 0`. -/
structure Off (n : ℕ) where
  row : Fin 2 → Nat
  inb : ∀ a, row a + (B2 n).size a ≤ S2048x1024.size a

abbrev rowR {n : ℕ} (o : Off n) : Rect S2048x1024 := Rect.unit (s := S2048x1024) o.row (B2 n).size o.inb

/-! ## The operations -/

abbrev Pr (F : FTy → Type) : Type 1 := Prog (TpuEff nD τ sig (Elt F) Λ₀ .tc) PUnit

/-- One operation and what follows it. -/
abbrev eff {β : Type} (e : TpuEff nD τ sig (Elt F) Λ₀ .tc β) (k : β → Pr F) : Pr F := Prog.op e k

section Ops
variable {n : ℕ} (hn : Ok n)

def loadX (o : Off n) (k : Vec F (B2 n) .bf16 → Pr F) : Pr F :=
  eff (.load xM (rowR o).toLoadRect (View.loadsAt_vmem (pos2 hn))) k
def loadO (o : Off n) (k : Vec F (B2 n) .f32 → Pr F) : Pr F :=
  eff (.load oM (rowR o).toLoadRect (View.loadsAt_vmem (pos2 hn))) k
def storeO (o : Off n) (v : Vec F (B2 n) .f32) (k : Pr F) : Pr F :=
  eff (.store oM (rowR o) v Finset.univ (View.stores_vmem_bits_univ (pos2 hn) rfl) (.inl rfl)) fun _ => k
def loadS (m : Memref sig .tc .vmem S3x256x1024 .bf16) (j : Fin 3) (k : Vec F (B3 n) .bf16 → Pr F) : Pr F :=
  eff (.load m (slotR hn j).toLoadRect (View.loadsAt_vmem (pos3 hn))) k
def storeS (m : Memref sig .tc .vmem S3x256x1024 .bf16) (hm : m.IsWhole) (j : Fin 3) (v : Vec F (B3 n) .bf16) (k : Pr F) : Pr F :=
  eff (.store m (slotR hn j) v Finset.univ (View.stores_vmem (pos3 hn) (hm.storeExact_slice rfl _ (packed3 hn j)) (fun _ => rfl)) (.inl rfl)) fun _ => k

/-- A block as a slot, kept or rounded; a slot as a block, widened. -/
def packX (v : Vec F (B2 n) .bf16) : FVec F (B3 n) .bf16 := shapeCast (B3 n) (shapeCast (B2 n) v (casts22 hn)) (casts23 hn)
def packO (v : Vec F (B2 n) .f32) : FVec F (B3 n) .bf16 := shapeCast (B3 n) (truncf .bf16 (shapeCast (B2 n) v (casts22 hn)) bitsLt_bf16_f32) (casts23 hn)
def openS (v : Vec F (B3 n) .bf16) : FVec F (B2 n) .f32 := extf .f32 (shapeCast (B2 n) v (casts32 hn)) bitsLt_bf16_f32

/-- Copy the block at `o` of `x` (of the result) into slot `j` of the send buffer. -/
def stageX (h : Half) (j : Fin 3) (o : Off n) (k : Pr F) : Pr F :=
  loadX hn o fun v => loadS hn (sendM h) j fun _ => storeS hn (sendM h) (sendM_whole h) j (packX hn v) k
def stageO (h : Half) (j : Fin 3) (o : Off n) (k : Pr F) : Pr F :=
  loadO hn o fun v => loadS hn (sendM h) j fun _ => storeS hn (sendM h) (sendM_whole h) j (packO hn v) k

/-- Start the copy of send slot `s` into slot `j` of device `d`'s receive buffer. -/
def start (h : Half) (s j : Fin 3) (d : Dev nD) (k : Pr F) : Pr F :=
  eff (.enqueueDma (slotM (sendM h) hn s) (.remote (Dev.tc d) (slotM (recvM h) hn j) (.dma (semJ (ssA h) j))) (.dma (semJ (rsA h) j))
    (((sendM_whole h).wordExact_slice rfl _ (words3 hn s)).reshape _ _) (((recvM_whole h).wordExact_slice rfl _ (words3 hn j)).reshape _ _)
    ⟨⟨rfl, Or.inl rfl⟩, trivial⟩) fun _ => k

/-- Wait for the outgoing copy of slot `j`, then for the incoming one. -/
def finish (h : Half) (s j : Fin 3) (k : Pr F) : Pr F :=
  eff (.waitDma2 (semJ (ssA h) j) (slotM (recvM h) hn j) (slotM (sendM h) hn s)
    (((recvM_whole h).wordExact_slice rfl _ (words3 hn j)).reshape _ _) (((sendM_whole h).wordExact_slice rfl _ (words3 hn s)).reshape _ _)) fun _ =>
  eff (.waitDma2 (semJ (rsA h) j) (slotM (sendM h) hn s) (slotM (recvM h) hn j)
    (((sendM_whole h).wordExact_slice rfl _ (words3 hn s)).reshape _ _) (((recvM_whole h).wordExact_slice rfl _ (words3 hn j)).reshape _ _)) fun _ => k

/-- Write slot `j` of the receive buffer over the block at `o` of the result. -/
def put (h : Half) (j : Fin 3) (o : Off n) (k : Pr F) : Pr F :=
  loadS hn (recvM h) j fun w => loadO hn o fun _ => storeO hn o (openS hn w) k

end Ops

def grant (s : Sem sig) (d : Dev nD) (k : Pr F) : Pr F := eff (.semSignal (d, .tc) s (1#32).toInt) fun _ => k
def await (s : Sem sig) (w : BitVec 32) (k : Pr F) : Pr F := eff (.semWait s w.toInt) fun _ => k

def each : List (Fin 3) → (Fin 3 → Pr F → Pr F) → Pr F → Pr F
  | [], _, k => k
  | j :: l, f, k => f j (each l f k)

/-! ## The phases -/

/-- Rows a copy of phase `P` moves. -/
def nr : ℕ → ℕ | 0 => 256 | 1 => 64 | 4 => 64 | 5 => 256 | _ => 32
theorem nr_ok : ∀ P, Ok (nr P)
  | 0 => ok256 | 1 => ok64 | 2 => ok32 | 3 => ok32 | 4 => ok64 | 5 => ok256 | _ + 6 => ok32
/-- The slots phase `P` uses. -/
def sl : ℕ → List (Fin 3) | 0 => [0, 1, 2] | 1 => [0, 1, 2] | 2 => [0] | 3 => [0] | 4 => [0, 1, 2] | 5 => [0, 1, 2] | _ => []
/-- The slots it stages: one for all copies from phase 3 on. -/
def stl : ℕ → List (Fin 3) | 0 => [0, 1, 2] | 1 => [0, 1, 2] | _ => [0]
/-- The send slot of the copy into receive slot `j`. -/
def srcOf : ℕ → Fin 3 → Fin 3 | 4, _ => 0 | 5, _ => 0 | _, j => j
/-- The grant a phase waits for. -/
def crI : ℕ → Fin 6 | 0 => 0 | 1 => 1 | 2 => 2 | 3 => 3 | 4 => 4 | _ => 5
def crW : ℕ → BitVec 32 | 2 => 1#32 | 3 => 1#32 | _ => 3#32

/-- What the program takes from the device's place in the mesh: whom it signals at the barrier, whom it copies to
    and whom it grants its buffers to, which rows it stages, and which rows it writes. -/
structure Par where
  bar : Half → Fin 3 → Dev nD
  tgt : Half → ℕ → Fin 3 → Dev nD
  gr : Half → ℕ → Fin 3 → Dev nD
  so : Half → (P : ℕ) → Fin 3 → Off (nr P)
  ro : Half → (P : ℕ) → Fin 3 → Off (nr P)

section Phases
variable (p : Par)

def stages (h : Half) (P : ℕ) (k : Pr F) : Pr F :=
  match P with
  | 0 => each (stl 0) (fun j => stageX ok256 h j (p.so h 0 j)) k
  | P + 1 => each (stl (P + 1)) (fun j => stageO (nr_ok (P + 1)) h j (p.so h (P + 1) j)) k

def awaitGrant (h : Half) (P : ℕ) (k : Pr F) : Pr F :=
  match P with
  | 0 => k
  | P + 1 => await (semC (crA h) (crI (P + 1))) (crW (P + 1)) k

def starts (h : Half) (P : ℕ) (k : Pr F) : Pr F := each (sl P) (fun j => start (nr_ok P) h (srcOf P j) j (p.tgt h P j)) k
def finishes (h : Half) (P : ℕ) (k : Pr F) : Pr F := each (sl P) (fun j => finish (nr_ok P) h (srcOf P j) j) k
def grants (h : Half) (P : ℕ) (k : Pr F) : Pr F := each (sl P) (fun j => grant (semC (crA h) (crI P)) (p.gr h P j)) k

def consume (h : Half) (P : ℕ) (k : Pr F) : Pr F :=
  match P with
  | 0 => loadX ok256 (p.ro h 0 0) fun v => loadS ok256 (recvM h) 0 fun w0 => loadS ok256 (recvM h) 1 fun w1 => loadS ok256 (recvM h) 2 fun w2 =>
      loadO ok256 (p.ro h 0 0) fun _ => storeO ok256 (p.ro h 0 0)
        (addf (addf (addf (extf .f32 (shapeCast (B2 256) v (casts22 ok256)) bitsLt_bf16_f32) (openS ok256 w0)) (openS ok256 w1)) (openS ok256 w2)) k
  | 1 => loadO ok64 (p.ro h 1 0) fun v => loadS ok64 (recvM h) 0 fun w0 => loadS ok64 (recvM h) 1 fun w1 => loadS ok64 (recvM h) 2 fun w2 =>
      loadO ok64 (p.ro h 1 0) fun _ => storeO ok64 (p.ro h 1 0)
        (addf (addf (addf (shapeCast (B2 64) v (casts22 ok64)) (openS ok64 w0)) (openS ok64 w1)) (openS ok64 w2)) k
  | 2 => loadO ok32 (p.ro h 2 0) fun v => loadS ok32 (recvM h) 0 fun w0 =>
      loadO ok32 (p.ro h 2 0) fun _ => storeO ok32 (p.ro h 2 0) (addf (shapeCast (B2 32) v (casts22 ok32)) (openS ok32 w0)) k
  | P + 3 => each (sl (P + 3)) (fun j => put (nr_ok (P + 3)) h j (p.ro h (P + 3) j)) k

def phase (P : ℕ) (k : Pr F) : Pr F :=
  stages p .a P <| stages p .b P <| awaitGrant .a P <| starts p .a P <| awaitGrant .b P <| starts p .b P <|
  finishes .a P <| finishes .b P <| consume p .a P <| consume p .b P <| grants p .a (P + 1) <| grants p .b (P + 1) k

def barrier (k : Pr F) : Pr F :=
  each [0, 1, 2] (fun j k => grant barS (p.bar .a j) <| grant barS (p.bar .b j) k) <| await barS 6#32 k

def prog : Pr F := barrier p <| phase p 0 <| phase p 1 <| phase p 2 <| phase p 3 <| phase p 4 <| phase p 5 <| Prog.ret ⟨⟩

end Phases

/-! ## The printed body -/

/-- The device words and row offsets as the body computes them. -/
def raw (d : Dev nD) : Par where
  bar
    | .a, 0 => ⟨k0_dev1 d, k0_dev1_lt d⟩ | .b, 0 => ⟨k0_dev2 d, k0_dev2_lt d⟩ | .a, 1 => ⟨k0_dev3 d, k0_dev3_lt d⟩
    | .b, 1 => ⟨k0_dev4 d, k0_dev4_lt d⟩ | .a, 2 => ⟨k0_dev5 d, k0_dev5_lt d⟩ | .b, 2 => ⟨k0_dev6 d, k0_dev6_lt d⟩
  tgt
    | .a, 0, 0 => ⟨k0_dev7 d, k0_dev7_lt d⟩ | .a, 0, 1 => ⟨k0_dev8 d, k0_dev8_lt d⟩ | .a, 0, 2 => ⟨k0_dev9 d, k0_dev9_lt d⟩
    | .b, 0, 0 => ⟨k0_dev10 d, k0_dev10_lt d⟩ | .b, 0, 1 => ⟨k0_dev11 d, k0_dev11_lt d⟩ | .b, 0, 2 => ⟨k0_dev12 d, k0_dev12_lt d⟩
    | .a, 1, 0 => ⟨k0_dev19 d, k0_dev19_lt d⟩ | .a, 1, 1 => ⟨k0_dev20 d, k0_dev20_lt d⟩ | .a, 1, 2 => ⟨k0_dev21 d, k0_dev21_lt d⟩
    | .b, 1, 0 => ⟨k0_dev22 d, k0_dev22_lt d⟩ | .b, 1, 1 => ⟨k0_dev23 d, k0_dev23_lt d⟩ | .b, 1, 2 => ⟨k0_dev24 d, k0_dev24_lt d⟩
    | .a, 2, _ => ⟨k0_dev27 d, k0_dev27_lt d⟩ | .b, 2, _ => ⟨k0_dev28 d, k0_dev28_lt d⟩
    | .a, 3, _ => ⟨k0_dev31 d, k0_dev31_lt d⟩ | .b, 3, _ => ⟨k0_dev32 d, k0_dev32_lt d⟩
    | .a, 4, 0 => ⟨k0_dev39 d, k0_dev39_lt d⟩ | .a, 4, 1 => ⟨k0_dev40 d, k0_dev40_lt d⟩ | .a, 4, 2 => ⟨k0_dev41 d, k0_dev41_lt d⟩
    | .b, 4, 0 => ⟨k0_dev42 d, k0_dev42_lt d⟩ | .b, 4, 1 => ⟨k0_dev43 d, k0_dev43_lt d⟩ | .b, 4, 2 => ⟨k0_dev44 d, k0_dev44_lt d⟩
    | .a, 5, 0 => ⟨k0_dev51 d, k0_dev51_lt d⟩ | .a, 5, 1 => ⟨k0_dev52 d, k0_dev52_lt d⟩ | .a, 5, 2 => ⟨k0_dev53 d, k0_dev53_lt d⟩
    | .b, 5, 0 => ⟨k0_dev54 d, k0_dev54_lt d⟩ | .b, 5, 1 => ⟨k0_dev55 d, k0_dev55_lt d⟩ | .b, 5, 2 => ⟨k0_dev56 d, k0_dev56_lt d⟩
    | _, _, _ => d
  gr
    | .a, 1, 0 => ⟨k0_dev13 d, k0_dev13_lt d⟩ | .a, 1, 1 => ⟨k0_dev14 d, k0_dev14_lt d⟩ | .a, 1, 2 => ⟨k0_dev15 d, k0_dev15_lt d⟩
    | .b, 1, 0 => ⟨k0_dev16 d, k0_dev16_lt d⟩ | .b, 1, 1 => ⟨k0_dev17 d, k0_dev17_lt d⟩ | .b, 1, 2 => ⟨k0_dev18 d, k0_dev18_lt d⟩
    | .a, 2, _ => ⟨k0_dev25 d, k0_dev25_lt d⟩ | .b, 2, _ => ⟨k0_dev26 d, k0_dev26_lt d⟩
    | .a, 3, _ => ⟨k0_dev29 d, k0_dev29_lt d⟩ | .b, 3, _ => ⟨k0_dev30 d, k0_dev30_lt d⟩
    | .a, 4, 0 => ⟨k0_dev33 d, k0_dev33_lt d⟩ | .a, 4, 1 => ⟨k0_dev34 d, k0_dev34_lt d⟩ | .a, 4, 2 => ⟨k0_dev35 d, k0_dev35_lt d⟩
    | .b, 4, 0 => ⟨k0_dev36 d, k0_dev36_lt d⟩ | .b, 4, 1 => ⟨k0_dev37 d, k0_dev37_lt d⟩ | .b, 4, 2 => ⟨k0_dev38 d, k0_dev38_lt d⟩
    | .a, 5, 0 => ⟨k0_dev45 d, k0_dev45_lt d⟩ | .a, 5, 1 => ⟨k0_dev46 d, k0_dev46_lt d⟩ | .a, 5, 2 => ⟨k0_dev47 d, k0_dev47_lt d⟩
    | .b, 5, 0 => ⟨k0_dev48 d, k0_dev48_lt d⟩ | .b, 5, 1 => ⟨k0_dev49 d, k0_dev49_lt d⟩ | .b, 5, 2 => ⟨k0_dev50 d, k0_dev50_lt d⟩
    | _, _, _ => d
  so
    | .a, 0, 0 => ⟨_, k0_off1_inb d 0⟩ | .a, 0, 1 => ⟨_, k0_off1_inb d 1⟩ | .a, 0, 2 => ⟨_, k0_off1_inb d 2⟩
    | .b, 0, 0 => ⟨_, k0_off1_inb d 3⟩ | .b, 0, 1 => ⟨_, k0_off1_inb d 4⟩ | .b, 0, 2 => ⟨_, k0_off1_inb d 5⟩
    | .a, 1, 0 => ⟨_, k0_off3_inb d 0⟩ | .a, 1, 1 => ⟨_, k0_off3_inb d 1⟩ | .a, 1, 2 => ⟨_, k0_off3_inb d 2⟩
    | .b, 1, 0 => ⟨_, k0_off3_inb d 3⟩ | .b, 1, 1 => ⟨_, k0_off3_inb d 4⟩ | .b, 1, 2 => ⟨_, k0_off3_inb d 5⟩
    | .a, 2, _ => ⟨_, k0_off5_inb d 0⟩ | .b, 2, _ => ⟨_, k0_off5_inb d 1⟩
    | .a, 3, _ => ⟨_, k0_off6_inb d 0⟩ | .b, 3, _ => ⟨_, k0_off6_inb d 1⟩
    | .a, 4, _ => ⟨_, k0_off4_inb d 0⟩ | .b, 4, _ => ⟨_, k0_off4_inb d 1⟩
    | .a, 5, _ => ⟨_, k0_off2_inb d 0⟩ | .b, 5, _ => ⟨_, k0_off2_inb d 1⟩
    | .a, _ + 6, _ => ⟨_, k0_off6_inb d 0⟩ | .b, _ + 6, _ => ⟨_, k0_off6_inb d 1⟩
  ro
    | .a, 0, _ => ⟨_, k0_off2_inb d 0⟩ | .b, 0, _ => ⟨_, k0_off2_inb d 1⟩
    | .a, 1, _ => ⟨_, k0_off4_inb d 0⟩ | .b, 1, _ => ⟨_, k0_off4_inb d 1⟩
    | .a, 2, _ => ⟨_, k0_off6_inb d 0⟩ | .b, 2, _ => ⟨_, k0_off6_inb d 1⟩
    | .a, 3, _ => ⟨_, k0_off5_inb d 0⟩ | .b, 3, _ => ⟨_, k0_off5_inb d 1⟩
    | .a, 4, 0 => ⟨_, k0_off7_inb d 0⟩ | .a, 4, 1 => ⟨_, k0_off7_inb d 1⟩ | .a, 4, 2 => ⟨_, k0_off7_inb d 2⟩
    | .b, 4, 0 => ⟨_, k0_off7_inb d 3⟩ | .b, 4, 1 => ⟨_, k0_off7_inb d 4⟩ | .b, 4, 2 => ⟨_, k0_off7_inb d 5⟩
    | .a, 5, 0 => ⟨_, k0_off8_inb d 0⟩ | .a, 5, 1 => ⟨_, k0_off8_inb d 1⟩ | .a, 5, 2 => ⟨_, k0_off8_inb d 2⟩
    | .b, 5, 0 => ⟨_, k0_off8_inb d 3⟩ | .b, 5, 1 => ⟨_, k0_off8_inb d 4⟩ | .b, 5, 2 => ⟨_, k0_off8_inb d 5⟩
    | .a, _ + 6, _ => ⟨_, k0_off6_inb d 0⟩ | .b, _ + 6, _ => ⟨_, k0_off6_inb d 1⟩

set_option maxRecDepth 65536 in
set_option maxHeartbeats 2000000 in
/-- The printed body is the program at the printed device words and offsets. -/
theorem body_eq :
    cc0_body (F := F) xM (Memref.isWhole_whole _) oM (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 cc0_scratch8 cc0_scratch9
      = eff .deviceId fun d => prog (raw d) := rfl

end Cert.KernelIdeal.Own

end
-- ==== Proof.Ideal.Mesh.lean ====
/-
Places in the mesh: whom a device exchanges with in each phase, and which rows.

Device `16 x + 4 y + z` sits at `(x, y, z)`. The `i`-th mate along an axis is the device `i + 1` steps on around
that axis; `bk` undoes the step. `soR` / `roR` are the first rows of the blocks a device stages and writes.
-/
module

public import proofs.«01_k».proof.Proof.Ideal.Prog

@[expose] public section

noncomputable section

namespace Cert.KernelIdeal.Own

open Cert.KernelIdeal Cert.KernelIdeal.Gen
open Idealize.ShloMosaic Idealize.SL.Sem

inductive Ax | x | y | z
  deriving DecidableEq

instance : Fintype Ax := ⟨{.x, .y, .z}, fun A => by cases A <;> decide⟩

/-- The axis along which half `h` exchanges in phase `P`. -/
def ax : Half → ℕ → Ax
  | .a, 0 => .y | .b, 0 => .z | .a, 1 => .z | .b, 1 => .y | .a, 4 => .z | .b, 4 => .y | .a, 5 => .y | .b, 5 => .z | _, _ => .x

def mateN : Ax → ℕ → ℕ → ℕ
  | .x, _, c => (c + 16) % 32
  | .y, i, c => 16 * (c / 16) + 4 * ((c / 4 + i + 1) % 4) + c % 4
  | .z, i, c => 4 * (c / 4) + (c + i + 1) % 4

theorem mateN_lt : ∀ (A : Ax) (i : Fin 3) (c : Dev nD), mateN A i.val c.val < nD := by decide +kernel

def mate (A : Ax) (i : Fin 3) (c : Dev nD) : Dev nD := ⟨mateN A i.val c.val, mateN_lt A i c⟩

def bk : Ax → Fin 3 → Fin 3 | .x, i => i | _, i => i.rev

theorem mate_bk : ∀ (A : Ax) (i : Fin 3) (c : Dev nD), mate A (bk A i) (mate A i c) = c := by decide +kernel
theorem bk_bk : ∀ (A : Ax) (i : Fin 3), bk A (bk A i) = i := by decide
theorem mate_bk' (A : Ax) (i : Fin 3) (c : Dev nD) : mate A i (mate A (bk A i) c) = c := by
  have := mate_bk A (bk A i) c; rwa [bk_bk] at this
theorem bk_mem : ∀ (h : Half) (P : Fin 7) (i : Fin 3), i ∈ sl P.val → bk (ax h P.val) i ∈ sl P.val := by decide

/-- The step along an axis as a permutation of the devices. -/
def mateE (A : Ax) (i : Fin 3) : Dev nD ≃ Dev nD := ⟨mate A i, mate A (bk A i), mate_bk A i, mate_bk' A i⟩

def base : Half → ℕ | .a => 0 | .b => 1024
def crd : Ax → ℕ → ℕ | .x, c => c / 16 | .y, c => c / 4 % 4 | .z, c => c % 4
def r1 (h : Half) (c : ℕ) : ℕ := base h + 256 * crd (ax h 0) c
def r2 (h : Half) (c : ℕ) : ℕ := r1 h c + 64 * crd (ax h 1) c
def r3 (h : Half) (c : ℕ) : ℕ := r2 h c + 32 * crd .x c

def soR (h : Half) (P : ℕ) (j : ℕ) (c : ℕ) : ℕ :=
  match P with
  | 0 => base h + 256 * ((crd (ax h 0) c + j + 1) % 4)
  | 1 => r1 h c + 64 * ((crd (ax h 1) c + j + 1) % 4)
  | 2 => r2 h c + 32 * (1 - crd .x c)
  | 4 => r2 h c
  | 5 => r1 h c
  | _ => r3 h c

def roR (h : Half) (P : ℕ) (j : ℕ) (c : ℕ) : ℕ :=
  match P with
  | 0 => r1 h c
  | 1 => r2 h c
  | 3 => r2 h c + 32 * (1 - crd .x c)
  | 4 => r1 h c + 64 * ((crd (ax h 1) c + 3 - j) % 4)
  | 5 => base h + 256 * ((crd (ax h 0) c + 3 - j) % 4)
  | _ => r3 h c

/-- The block that reaches slot `j` is the one the receiver writes from it. -/
theorem so_ro : ∀ (h : Half) (P : Fin 6) (j : Fin 3) (c : Dev nD), j ∈ sl P.val →
    soR h P.val j.val (mate (ax h P.val) (bk (ax h P.val) j) c).val = roR h P.val j.val c.val := by decide +kernel

/-- `p` names, at device `c`, the devices and rows of the mesh. -/
structure Good (p : Par) (c : Dev nD) : Prop where
  bar : ∀ h j, p.bar h j = mate (ax h 0) j c
  tgt : ∀ h (P : Fin 6) j, j ∈ sl P.val → p.tgt h P.val j = mate (ax h P.val) j c
  gr : ∀ h (P : Fin 6) j, 0 < P.val → j ∈ sl P.val → p.gr h P.val j = mate (ax h P.val) j c
  so : ∀ h (P : Fin 6) j, j ∈ stl P.val → (p.so h P.val j).row = ![soR h P.val j.val c.val, 0]
  ro : ∀ h (P : Fin 6) j, j ∈ sl P.val → (p.ro h P.val j).row = ![roR h P.val j.val c.val, 0]

theorem good_bar : ∀ (c : Dev nD) (h : Half) (j : Fin 3), (raw c).bar h j = mate (ax h 0) j c := by decide +kernel
theorem good_tgt : ∀ (c : Dev nD) (h : Half) (P : Fin 6) (j : Fin 3), j ∈ sl P.val → (raw c).tgt h P.val j = mate (ax h P.val) j c := by decide +kernel
theorem good_gr : ∀ (c : Dev nD) (h : Half) (P : Fin 6) (j : Fin 3), 0 < P.val → j ∈ sl P.val → (raw c).gr h P.val j = mate (ax h P.val) j c := by
  decide +kernel
theorem good_so : ∀ (c : Dev nD) (h : Half) (P : Fin 6) (j : Fin 3), j ∈ stl P.val → ((raw c).so h P.val j).row = ![soR h P.val j.val c.val, 0] := by
  decide +kernel
theorem good_ro : ∀ (c : Dev nD) (h : Half) (P : Fin 6) (j : Fin 3), j ∈ sl P.val → ((raw c).ro h P.val j).row = ![roR h P.val j.val c.val, 0] := by
  decide +kernel

theorem good_raw (c : Dev nD) : Good (raw c) c := ⟨good_bar c, good_tgt c, good_gr c, good_so c, good_ro c⟩

end Cert.KernelIdeal.Own

end
-- ==== Proof.Ideal.Vals.lean ====
/-
What the buffers hold: the running result of each phase, element by element.

`V X h P c` is what half `h` of device `c`'s result holds at the start of phase `P` on the rows `inReg h P c`, when
device `d` was given `X d`. The first three phases add what the mates of the phase hold; the last three overwrite
blocks by what the mates hold. What a device sends is `bq X P`: its argument at first, later its result rounded.
-/
module

public import proofs.«01_k».proof.Proof.Ideal.Mesh
public import Idealize.ShloMosaic.Lib.ViewIndex
public import Idealize.ShloMosaic.Lib.Pipeline.Value

@[expose] public section

noncomputable section

namespace Cert.KernelIdeal.Own

open Cert.KernelIdeal Cert.KernelIdeal.Gen
open Idealize.ShloMosaic Idealize.SL.Sem

variable {F : FTy → Type} [FloatOps F]

/-! ## Rows -/

/-- The index at row `r` and column `k`. -/
def at2 (r k : ℕ) : S2048x1024.Idx := fun a => ⟨(![r, k] a) % S2048x1024.size a, Nat.mod_lt _ (by revert a; decide)⟩

theorem at2_eq {r k : ℕ} (i : S2048x1024.Idx) (h0 : (i 0).val = r) (h1 : (i 1).val = k) : at2 r k = i := by
  subst h0; subst h1
  funext a
  match a with
  | ⟨0, _⟩ => exact Fin.ext (Nat.mod_eq_of_lt (i 0).isLt)
  | ⟨1, _⟩ => exact Fin.ext (Nat.mod_eq_of_lt (i 1).isLt)

/-- The `n` rows of `v` from row `r`, as a slot. -/
def blk {α : Type} (n : ℕ) (v : S2048x1024.Idx → α) (r : ℕ) : (B3 n).Idx → α := fun w => v (at2 (r + (w 1).val) (w 2).val)

def inRows (r n : ℕ) (i : S2048x1024.Idx) : Prop := r ≤ (i 0).val ∧ (i 0).val < r + n

instance (r n : ℕ) (i : S2048x1024.Idx) : Decidable (inRows r n i) := inferInstanceAs (Decidable (_ ∧ _))

section Rows
variable {n r : ℕ} (hn : Ok n) (o : Off n) (ho : o.row = ![r, 0])
include ho

theorem emb_row (y : (B2 n).Idx) : (((rowR o).emb y) 0).val = r + (y 0).val ∧ (((rowR o).emb y) 1).val = (y 1).val := by
  constructor
  · show o.row 0 + 1 * (y 0).val = _
    rw [ho, Nat.one_mul]; rfl
  · show o.row 1 + 1 * (y 1).val = _
    rw [ho, Nat.one_mul]; exact Nat.zero_add _

theorem at2_emb (y : (B2 n).Idx) : at2 (r + (y 0).val) (y 1).val = (rowR o).emb y :=
  at2_eq _ (emb_row o ho y).1 (emb_row o ho y).2

theorem inRows_emb (y : (B2 n).Idx) : inRows r n ((rowR o).emb y) := by
  have h := (emb_row o ho y).1
  have hy : (y 0).val < n := (y 0).isLt
  unfold inRows; omega

theorem exists_emb {i : S2048x1024.Idx} (hi : inRows r n i) : ∃ y, (rowR o).emb y = i := by
  unfold inRows at hi
  refine ⟨fun a => match a with | ⟨0, _⟩ => ⟨(i 0).val - r, show _ < n by omega⟩ | ⟨1, _⟩ => ⟨(i 1).val, (i 1).isLt⟩, ?_⟩
  rw [← at2_emb o ho]
  exact at2_eq i (show (i 0).val = r + ((i 0).val - r) by omega) rfl

include hn

theorem packX_rows (f : S2048x1024.Idx → Elt F .bf16) : packX hn (fun y => f ((rowR o).emb y)) = blk n f r := by
  funext w
  unfold packX
  rw [shapeCast_self]
  refine (shapeCast_addUnit_apply (![n, 1024]) _ _ w).trans ?_
  exact congrArg f (at2_emb o ho (fun a => w a.succ)).symm

theorem packO_rows (f : S2048x1024.Idx → Elt F .f32) :
    packO hn (fun y => f ((rowR o).emb y)) = blk n (fun i => (FloatOps.truncf .bf16 bitsLt_bf16_f32 (f i : F .f32) : Elt F .bf16)) r := by
  funext w
  unfold packO
  rw [shapeCast_self]
  refine (shapeCast_addUnit_apply (![n, 1024]) _ _ w).trans ?_
  show FloatOps.truncf .bf16 bitsLt_bf16_f32 (f ((rowR o).emb (fun a => w a.succ))) = _
  rw [← at2_emb o ho (fun a => w a.succ)]; rfl

theorem openS_rows (f : S2048x1024.Idx → Elt F .bf16) (y : (B2 n).Idx) :
    openS hn (blk n f r) y = FloatOps.extf .f32 bitsLt_bf16_f32 (f ((rowR o).emb y) : F .bf16) := by
  unfold openS
  show FloatOps.extf .f32 bitsLt_bf16_f32 (shapeCast (B2 n) (blk n f r) (casts32 hn) y) = _
  refine congrArg _ ((shapeCast_dropUnit_apply (![n, 1024]) _ _ y).trans ?_)
  exact congrArg f (at2_emb o ho y)

/-- Rows written: the new values there, the old elsewhere. -/
theorem write_rows (f : S2048x1024.Idx → Elt F .f32) (w : (B2 n).Idx → Elt F .f32) (g : S2048x1024.Idx → Elt F .f32)
    (hg : ∀ y, w y = g ((rowR o).emb y)) :
    (oM.access (rowR o)).write (Elt F) f w Finset.univ = fun i => if inRows r n i then g i else f i := by
  funext i
  by_cases hi : inRows r n i
  · obtain ⟨y, rfl⟩ := exists_emb o ho hi
    rw [if_pos hi]
    exact (View.read_slice_write_emb (v := View.whole cc0_stg1_0) (rowR o) f w (Finset.mem_univ y)).trans (hg y)
  · rw [if_neg hi]
    refine View.read_slice_write_of_not_mem (v := View.whole cc0_stg1_0) (rowR o) f w Finset.univ (y := i) fun hm => hi ?_
    obtain ⟨y, -, rfl⟩ := Finset.mem_map.mp hm
    exact inRows_emb o ho y

end Rows

/-! ## The running result -/

section Values
variable (X : Dev nD → S2048x1024.Idx → Elt F .bf16)

def ext (a : Elt F .bf16) : Elt F .f32 := FloatOps.extf .f32 bitsLt_bf16_f32 (a : F .bf16)

/-- What a device sends in phase `P` when its result holds `v`. -/
def bq (P : ℕ) (v : Dev nD → S2048x1024.Idx → Elt F .f32) (c : Dev nD) (i : S2048x1024.Idx) : Elt F .bf16 :=
  match P with
  | 0 => X c i
  | _ + 1 => (FloatOps.truncf .bf16 bitsLt_bf16_f32 (v c i : F .f32) : Elt F .bf16)

/-- What one arrival of phase `P` makes of an element. -/
def upd (h : Half) (P : ℕ) (c : Dev nD) (j : Fin 3) (acc b : Elt F .f32) (i : S2048x1024.Idx) : Elt F .f32 :=
  if P < 3 then FloatOps.addf (acc : F .f32) (b : F .f32) else if inRows (roR h P j.val c.val) (nr P) i then b else acc

def V (h : Half) : ℕ → Dev nD → S2048x1024.Idx → Elt F .f32
  | 0, c, i => ext (X c i)
  | P + 1, c, i => (sl P).foldl (fun acc j => upd h P c j acc (ext (bq X P (V h P) (mate (ax h P) (bk (ax h P) j) c) i)) i) (V h P c i)

/-- What device `c` sends in phase `P`, wherever it stands. -/
def VB (h : Half) (P : ℕ) : Dev nD → S2048x1024.Idx → Elt F .bf16 := bq X P (V X h P)

/-- What arrives in slot `j` of device `c` in phase `P`. -/
def got (h : Half) (P : ℕ) (j : Fin 3) (c : Dev nD) : (B3 (nr P)).Idx → Elt F .bf16 :=
  blk (nr P) (VB X h P (mate (ax h P) (bk (ax h P) j) c)) (roR h P j.val c.val)

theorem got_mate (h : Half) (P : Fin 6) (j : Fin 3) (hj : j ∈ sl P.val) (c : Dev nD) :
    got X h P.val j (mate (ax h P.val) j c) = blk (nr P.val) (VB X h P.val c) (soR h P.val j.val c.val) := by
  unfold got
  rw [← so_ro h P j _ hj, mate_bk]

/-! ### The rows a half's result is right on -/

def regS (h : Half) (P : ℕ) (c : ℕ) : ℕ := match P with | 1 => r1 h c | 2 => r2 h c | 3 => r3 h c | 4 => r2 h c | 5 => r1 h c | _ => base h
def regN : ℕ → ℕ | 0 => 0 | 1 => 256 | 2 => 64 | 3 => 32 | 4 => 64 | 5 => 256 | _ => 1024
def inReg (h : Half) (P : ℕ) (c : Dev nD) (i : S2048x1024.Idx) : Prop := inRows (regS h P c.val) (regN P) i

def Inv (h : Half) (P : ℕ) (c : Dev nD) (g : S2048x1024.Idx → Elt F .f32) : Prop := ∀ i, inReg h P c i → g i = V X h P c i

def oth : Half → Half | .a => .b | .b => .a

/-- What a half reads and writes lies in its own 1024 rows. -/
theorem reg_base : ∀ (h : Half) (P : Fin 7) (c : Dev nD), base h ≤ regS h P.val c.val ∧ regS h P.val c.val + regN P.val ≤ base h + 1024 := by
  decide +kernel
theorem ro_base : ∀ (h : Half) (P : Fin 6) (j : Fin 3) (c : Dev nD), j ∈ sl P.val →
    base h ≤ roR h P.val j.val c.val ∧ roR h P.val j.val c.val + nr P.val ≤ base h + 1024 := by
  decide +kernel
theorem base_oth (h : Half) : base (oth h) + 1024 ≤ base h ∨ base h + 1024 ≤ base (oth h) := by cases h <;> decide
/-- Staged rows, from phase 1 on, are rows the result is right on. -/
theorem so_reg : ∀ (h : Half) (P : Fin 6) (j : Fin 3) (c : Dev nD), 0 < P.val → j ∈ stl P.val →
    regS h P.val c.val ≤ soR h P.val j.val c.val ∧ soR h P.val j.val c.val + nr P.val ≤ regS h P.val c.val + regN P.val := by
  decide +kernel
theorem ro_reg : ∀ (h : Half) (P : Fin 3) (j : Fin 3) (c : Dev nD), 0 < P.val →
    regS h P.val c.val ≤ roR h P.val j.val c.val ∧ roR h P.val j.val c.val + nr P.val ≤ regS h P.val c.val + regN P.val := by
  decide +kernel
theorem ro_first : ∀ (h : Half) (P : Fin 3) (j : Fin 3) (c : Dev nD), roR h P.val j.val c.val = regS h (P.val + 1) c.val ∧ nr P.val = regN (P.val + 1) := by
  decide +kernel
/-- The blocks overwritten in a phase are apart from each other and from what was right before. -/
theorem ro_apart : ∀ (h : Half) (P : Fin 6) (j j' : Fin 3) (c : Dev nD), 3 ≤ P.val → j ∈ sl P.val → j' ∈ sl P.val → j ≠ j' →
    roR h P.val j.val c.val + nr P.val ≤ roR h P.val j'.val c.val ∨ roR h P.val j'.val c.val + nr P.val ≤ roR h P.val j.val c.val := by
  decide +kernel
theorem ro_new : ∀ (h : Half) (P : Fin 6) (j : Fin 3) (c : Dev nD), 3 ≤ P.val → j ∈ sl P.val →
    roR h P.val j.val c.val + nr P.val ≤ regS h P.val c.val ∨ regS h P.val c.val + regN P.val ≤ roR h P.val j.val c.val := by
  decide +kernel

theorem crd_lt : ∀ (A : Ax) (c : Dev nD), crd A c.val < (match A with | .x => 2 | _ => 4) := by decide +kernel

/-- With what was right before they make up what is right after. -/
theorem ro_cover (h : Half) (P : Fin 6) (hP : 3 ≤ P.val) (c : Dev nD) (i : S2048x1024.Idx) (hi : inReg h (P.val + 1) c i) :
    inReg h P.val c i ∨ ∃ j ∈ sl P.val, inRows (roR h P.val j.val c.val) (nr P.val) i := by
  obtain ⟨P, hP6⟩ := P
  simp only at hP hi ⊢
  unfold inReg inRows at *
  have hx := crd_lt .x c
  have h0 := crd_lt (ax h 0) c
  have h1 := crd_lt (ax h 1) c
  obtain rfl | rfl | rfl : P = 3 ∨ P = 4 ∨ P = 5 := by omega
  · simp only [regS, regN, roR, nr, sl, r3] at hi ⊢
    simp only [List.mem_singleton, exists_eq_left]
    simp only at hx
    omega
  · have h1 : crd (ax h 1) c.val < 4 := by cases h <;> exact h1
    simp only [regS, regN, roR, nr, sl, r2] at hi ⊢
    simp only [List.mem_cons, List.not_mem_nil, or_false, exists_eq_or_imp, exists_eq_left]
    simp only [Fin.val_zero, Fin.val_one, Fin.val_two]
    omega
  · have h0 : crd (ax h 0) c.val < 4 := by cases h <;> exact h0
    simp only [regS, regN, roR, nr, sl, r1] at hi ⊢
    simp only [List.mem_cons, List.not_mem_nil, or_false, exists_eq_or_imp, exists_eq_left]
    simp only [Fin.val_zero, Fin.val_one, Fin.val_two]
    omega

section Late
variable (h : Half) (P : Fin 6) (hP : 3 ≤ P.val) (c : Dev nD) (i : S2048x1024.Idx)
include hP

theorem foldl_upd_none (b : Fin 3 → Elt F .f32) (l : List (Fin 3)) (hl : ∀ j ∈ l, ¬ inRows (roR h P.val j.val c.val) (nr P.val) i) (acc : Elt F .f32) :
    l.foldl (fun acc j => upd h P.val c j acc (b j) i) acc = acc := by
  induction l generalizing acc with
  | nil => rfl
  | cons j l ih =>
    rw [List.foldl_cons, ih (fun j' h' => hl j' (List.mem_cons_of_mem _ h'))]
    unfold upd
    rw [if_neg (by omega), if_neg (hl j List.mem_cons_self)]

theorem foldl_upd_hit (b : Fin 3 → Elt F .f32) (j : Fin 3) (hi : inRows (roR h P.val j.val c.val) (nr P.val) i) (l : List (Fin 3)) (hj : j ∈ l)
    (hl : ∀ j' ∈ l, j' ≠ j → ¬ inRows (roR h P.val j'.val c.val) (nr P.val) i) (acc : Elt F .f32) :
    l.foldl (fun acc j => upd h P.val c j acc (b j) i) acc = b j := by
  induction l generalizing acc with
  | nil => exact absurd hj List.not_mem_nil
  | cons j' l ih =>
    rw [List.foldl_cons]
    by_cases hjl : j ∈ l
    · exact ih hjl (fun j'' h'' => hl j'' (List.mem_cons_of_mem _ h'')) _
    · obtain rfl : j = j' := (List.mem_cons.mp hj).resolve_right hjl
      rw [foldl_upd_none h P hP c i b l fun j' h' => hl j' (List.mem_cons_of_mem _ h') fun e => hjl (e ▸ h')]
      unfold upd
      rw [if_neg (by omega), if_pos hi]

theorem V_keep (hi : inReg h P.val c i) : V X h (P.val + 1) c i = V X h P.val c i := by
  show (sl P.val).foldl _ _ = _
  refine foldl_upd_none h P hP c i _ _ (fun j hj hb => ?_) _
  have := ro_new h P j c hP hj
  unfold inReg inRows at *; omega

theorem V_hit (j : Fin 3) (hj : j ∈ sl P.val) (hi : inRows (roR h P.val j.val c.val) (nr P.val) i) :
    V X h (P.val + 1) c i = ext (VB X h P.val (mate (ax h P.val) (bk (ax h P.val) j) c) i) := by
  show (sl P.val).foldl _ _ = _
  refine foldl_upd_hit h P hP c i (fun j => ext (bq X P.val (V X h P.val) (mate (ax h P.val) (bk (ax h P.val) j) c) i)) j hi _ hj (fun j' hj' hne hb => ?_) _
  have := ro_apart h P j j' c hP hj hj' (Ne.symm hne)
  unfold inRows at *; omega

/-- What one arrival leaves, from phase 3 on: the blocks of `d` are written. -/
def Mid (d : List (Fin 3)) (g : S2048x1024.Idx → Elt F .f32) : Prop :=
  ∀ i, (inReg h P.val c i ∨ ∃ j ∈ d, inRows (roR h P.val j.val c.val) (nr P.val) i) → g i = V X h (P.val + 1) c i

omit i in
theorem Mid.of_inv {g : S2048x1024.Idx → Elt F .f32} (hg : Inv X h P.val c g) : Mid X h P c [] g := by
  rintro i (hi | ⟨j, hj, -⟩)
  · rw [hg i hi, V_keep X h P hP c i hi]
  · exact absurd hj List.not_mem_nil

omit i in
theorem Mid.put {d : List (Fin 3)} {g : S2048x1024.Idx → Elt F .f32} (hg : Mid X h P c d g) (j : Fin 3) (hj : j ∈ sl P.val) :
    Mid X h P c (j :: d) (fun i => if inRows (roR h P.val j.val c.val) (nr P.val) i
      then ext (VB X h P.val (mate (ax h P.val) (bk (ax h P.val) j) c) i) else g i) := by
  intro i hi
  beta_reduce
  by_cases hb : inRows (roR h P.val j.val c.val) (nr P.val) i
  · rw [if_pos hb, V_hit X h P hP c i j hj hb]
  · rw [if_neg hb]
    refine hg i (hi.imp id ?_)
    rintro ⟨j', hj', hb'⟩
    rcases List.mem_cons.mp hj' with rfl | hj'
    · exact absurd hb' hb
    · exact ⟨j', hj', hb'⟩

omit i in
theorem Mid.inv {d : List (Fin 3)} {g : S2048x1024.Idx → Elt F .f32} (hg : Mid X h P c d g) (hd : ∀ j ∈ sl P.val, j ∈ d) : Inv X h (P.val + 1) c g :=
  fun i hi => hg i ((ro_cover h P hP c i hi).imp id fun ⟨j, hj, hb⟩ => ⟨j, hd j hj, hb⟩)

end Late

/-- A write of a half's rows leaves the other half's result. -/
theorem Inv.other {h : Half} {P' : Fin 7} {c : Dev nD} {f g : S2048x1024.Idx → Elt F .f32} (hf : Inv X (oth h) P'.val c f)
    {r n : ℕ} (hr : base h ≤ r ∧ r + n ≤ base h + 1024) : Inv X (oth h) P'.val c (fun i => if inRows r n i then g i else f i) := by
  intro i hi
  have h1 := reg_base (oth h) P' c
  have h2 := base_oth h
  beta_reduce
  rw [if_neg (by unfold inReg inRows at *; omega)]
  exact hf i hi

end Values

end Cert.KernelIdeal.Own

end
-- ==== Proof.Ideal.Sched.lean ====
/-
The protocol: which semaphore gives whom what, and when.

Each device has a barrier cell, a grant cell per half and phase, and a receive and a send cell per half and slot.
A grant hands over the granting device's receive slot, so that the granted device may copy into it; a receive cell
hands the slot back with what arrived; a send cell hands back the rows that were copied. Slots 1 and 2 are used in
four of the six phases, so their cells' rounds are numbered by `rd`.
-/
module

public import proofs.«01_k».proof.Proof.Ideal.Vals
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

inductive CK
  | bar
  | cr (h : Half) (P : Fin 6)
  | rs (h : Half) (j : Fin 3)
  | ss (h : Half) (j : Fin 3)
  deriving DecidableEq

/-- The cells of one device, in the order the launch lists its semaphores; the barrier's is the last. -/
def ownK : List CK :=
  [.ss .a 0, .ss .a 1, .ss .a 2, .rs .a 0, .rs .a 1, .rs .a 2, .ss .b 0, .ss .b 1, .ss .b 2, .rs .b 0, .rs .b 1, .rs .b 2,
    .cr .a 0, .cr .a 1, .cr .a 2, .cr .a 3, .cr .a 4, .cr .a 5, .cr .b 0, .cr .b 1, .cr .b 2, .cr .b 3, .cr .b 4, .cr .b 5]
def allK : List CK := .bar :: ownK

theorem mem_allK (k : CK) : k ∈ allK := by
  cases k with
  | bar => decide
  | cr h P => revert P; cases h <;> decide
  | rs h j => revert j; cases h <;> decide
  | ss h j => revert j; cases h <;> decide

instance : Fintype CK := ⟨allK.toFinset, fun k => List.mem_toFinset.mpr (mem_allK k)⟩

def semOf : CK → SemLoc sig
  | .bar => .reg barS
  | .cr h P => .reg (semC (crA h) P)
  | .rs h j => .dma (semJ (rsA h) j)
  | .ss h j => .dma (semJ (ssA h) j)

theorem semOf_inj : ∀ k k' : CK, semOf k = semOf k' → k = k' := by decide +kernel

abbrev cell (c : Dev nD) (k : CK) : GSem nD τ sig := ((c : Thread nD τ), semOf k)
def kcell (ck : Dev nD × CK) : GSem nD τ sig := cell ck.1 ck.2

theorem kcell_injective : Function.Injective kcell := by
  rintro ⟨c, k⟩ ⟨c', k'⟩ h
  have h1 : c = c' := congrArg (fun g : GSem nD τ sig => g.1.1) h
  have h2 : k = k' := semOf_inj _ _ (congrArg Prod.snd h)
  rw [h1, h2]

open Classical in
/-- The device and cell a semaphore is, if it is one of the protocol's. -/
def dec (g : GSem nD τ sig) : Option (Dev nD × CK) := if h : ∃ ck, kcell ck = g then some h.choose else none

theorem dec_cell (c : Dev nD) (k : CK) : dec (cell c k) = some (c, k) := by
  have h : ∃ ck, kcell ck = cell c k := ⟨(c, k), rfl⟩
  unfold dec
  rw [dif_pos h]
  exact congrArg some (kcell_injective h.choose_spec)

/-! ## Ghost state -/

/-- Who pays a duty: half and slot. -/
abbrev D : Type := Half × Fin 3
abbrev UB : Type := URounds (GSem nD τ sig) D
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Slots of the transfer buffers -/

section Slots
variable (M : Memref sig .tc .vmem S3x256x1024 .bf16) (c : Dev nD) (j : Fin 3)

/-- A whole slot, whatever it holds; holding `v` in its first rows; those rows alone at a share; the other rows. -/
def slotAny : sProp 𝕄 := iprop(∃ f : Buf (Elt F) (M.view.loc (c : Thread nD τ)), M.view.loc (c : Thread nD τ) ↦[(M.access (slotR ok256 j)).set]{fullShare} f)
def slotHas {n : ℕ} (hn : Ok n) (v : (B3 n).Idx → Elt F .bf16) : sProp 𝕄 :=
  iprop(∃ f : Buf (Elt F) (M.view.loc (c : Thread nD τ)), ⌜(M.access (slotR hn j)).read (Elt F) f = v⌝
    ∗ M.view.loc (c : Thread nD τ) ↦[(M.access (slotR ok256 j)).set]{fullShare} f)
def partAny {n : ℕ} (hn : Ok n) (q : PosShare TreeShare) : sProp 𝕄 :=
  iprop(∃ f : Buf (Elt F) (M.view.loc (c : Thread nD τ)), M.view.loc (c : Thread nD τ) ↦[(M.access (slotR hn j)).set]{q} f)
def partHas {n : ℕ} (hn : Ok n) (q : PosShare TreeShare) (v : (B3 n).Idx → Elt F .bf16) : sProp 𝕄 :=
  iprop(∃ f : Buf (Elt F) (M.view.loc (c : Thread nD τ)), ⌜(M.access (slotR hn j)).read (Elt F) f = v⌝
    ∗ M.view.loc (c : Thread nD τ) ↦[(M.access (slotR hn j)).set]{q} f)
def restAny {n : ℕ} (hn : Ok n) : sProp 𝕄 :=
  iprop(∃ f : Buf (Elt F) (M.view.loc (c : Thread nD τ)), M.view.loc (c : Thread nD τ) ↦[(M.access (slotR ok256 j)).set \ (M.access (slotR hn j)).set]{fullShare} f)

omit [FloatOps F] in
instance slotAny_storable : BI.Storable (upEmb : UEmb _ 𝕄) (slotAny (F := F) M c j) := by unfold slotAny; infer_instance
omit [FloatOps F] in
instance slotHas_storable {n : ℕ} (hn : Ok n) (v) : BI.Storable (upEmb : UEmb _ 𝕄) (slotHas (F := F) M c j hn v) := by unfold slotHas; infer_instance
omit [FloatOps F] in
instance partAny_storable {n : ℕ} (hn : Ok n) (q) : BI.Storable (upEmb : UEmb _ 𝕄) (partAny (F := F) M c j hn q) := by unfold partAny; infer_instance

end Slots

/-- The share of the source rows a copy takes: all, or a part where one source serves three copies. -/
def shr : ℕ → Fin 3 → PosShare TreeShare
  | 4, 0 => fullShare.left | 4, 1 => fullShare.right.left | 4, 2 => fullShare.right.right
  | 5, 0 => fullShare.left | 5, 1 => fullShare.right.left | 5, 2 => fullShare.right.right
  | _, _ => fullShare

/-! ## The schedule -/

/-- The round of a slot's cells that phase `P` is, and back. -/
def rd : Fin 3 → ℕ → ℕ | 0, P => P | _, P => if P < 3 then P else if P = 3 then 2 else P - 2
def phOf : Fin 3 → ℕ → ℕ | 0, r => r | _, r => if r < 2 then r else r + 2
def rds : Fin 3 → ℕ | 0 => 6 | _ => 4

theorem phOf_rd : ∀ (P : Fin 6) (j : Fin 3), j ∈ sl P.val → phOf j (rd j P.val) = P.val := by decide
theorem rd_lt : ∀ (P : Fin 6) (j : Fin 3), j ∈ sl P.val → rd j P.val < rds j := by decide
theorem rd_succ : ∀ (P : Fin 6) (j : Fin 3), j ∈ sl P.val → rd j P.val + 1 = rd j (P.val + 1) := by decide

/-- The units a copy brings. -/
def amt (h : Half) (P : ℕ) (j : Fin 3) : ℕ := (slotM (recvM h) (nr_ok P) j).view.dmaCredit
theorem amt_pos (h : Half) (P : ℕ) (j : Fin 3) : 0 < amt h P j := View.dmaCredit_pos _ (pos2 (nr_ok P))

theorem amt_send (h : Half) (P : ℕ) (j s : Fin 3) : (slotM (sendM h) (nr_ok P) s).view.dmaCredit = amt h P j := by
  unfold amt
  generalize nr_ok P = hn
  generalize nr P = n at hn
  cases h <;> rcases hn with rfl | rfl | rfl <;> rfl

/-- The one duty of a receive or send cell's round. -/
abbrev d0 : D := (.a, 0)

variable (X : Dev nD → S2048x1024.Idx → Elt F .bf16)

/-- What device `c` is granted for slot `j`: its mate's receive slot, the mate's receive cell being at the phase's round. -/
def grantPay (h : Half) (P : ℕ) (j : Fin 3) (c : Dev nD) : sProp 𝕄 :=
  iprop(slotAny (recvM h) (mate (ax h P) j c) j ∗ reached ER (cell (mate (ax h P) j c) (.rs h j)) (rd j P))
def recvPay (h : Half) (P : ℕ) (j : Fin 3) (c : Dev nD) : sProp 𝕄 := slotHas (recvM h) c j (nr_ok P) (got X h P j c)
def sendPay (h : Half) (P : ℕ) (j : Fin 3) (c : Dev nD) : sProp 𝕄 := partAny (sendM h) c (srcOf P j) (nr_ok P) (shr P j)

def dutiesK : CK → ℕ → Finset D
  | .bar, 0 => Finset.univ
  | .cr h P, 0 => if P = 0 then ∅ else ((sl P.val).map fun j => (h, j)).toFinset
  | .rs _ j, r => if r < rds j then {d0} else ∅
  | .ss _ j, r => if r < rds j then {d0} else ∅
  | _, _ => ∅
def amountK : CK → ℕ → ℕ
  | .rs h j, r => amt h (phOf j r) j
  | .ss h j, r => amt h (phOf j r) j
  | _, _ => 1
def payK (c : Dev nD) : CK → ℕ → D → sProp 𝕄
  | .bar, _, d => grantPay d.1 0 d.2 c
  | .cr h P, _, d => grantPay h P.val d.2 c
  | .rs h j, r, _ => recvPay X h (phOf j r) j c
  | .ss h j, r, _ => sendPay h (phOf j r) j c

theorem amountK_pos (k : CK) (r : ℕ) : 0 < amountK k r := by
  unfold amountK
  split
  · exact amt_pos _ _ _
  · exact amt_pos _ _ _
  · exact Nat.one_pos

def Rd : Rounds.Schedule (GSem nD τ sig) D 𝕄 where
  duties g r := match dec g with | some ck => dutiesK ck.2 r | none => ∅
  amount g r _ := match dec g with | some ck => amountK ck.2 r | none => 1
  payload g r d := match dec g with | some ck => payK X ck.1 ck.2 r d | none => iprop(emp)
  amount_pos g r _ _ := by
    cases dec g with
    | none => exact Nat.one_pos
    | some ck => exact amountK_pos ck.2 r

instance Rd_payload_storable (g : GSem nD τ sig) (r : ℕ) (d : D) : BI.Storable (upEmb : UEmb _ 𝕄) ((Rd (F := F) X).payload g r d) := by
  show BI.Storable upEmb (match dec g with | some ck => payK X ck.1 ck.2 r d | none => iprop(emp))
  cases dec g with
  | none => infer_instance
  | some ck =>
    obtain ⟨c, k⟩ := ck
    cases k <;> (simp only [payK]; first | unfold grantPay | unfold recvPay | unfold sendPay) <;> infer_instance

theorem duties_cell (c : Dev nD) (k : CK) (r : ℕ) : (Rd (F := F) X).duties (cell c k) r = dutiesK k r := by
  show (match dec (cell c k) with | some ck => dutiesK ck.2 r | none => ∅) = _
  rw [dec_cell]
theorem amount_cell (c : Dev nD) (k : CK) (r : ℕ) (d : D) : (Rd (F := F) X).amount (cell c k) r d = amountK k r := by
  show (match dec (cell c k) with | some ck => amountK ck.2 r | none => 1) = _
  rw [dec_cell]
theorem payload_cell (c : Dev nD) (k : CK) (r : ℕ) (d : D) : (Rd (F := F) X).payload (cell c k) r d = payK X c k r d := by
  show (match dec (cell c k) with | some ck => payK X ck.1 ck.2 r d | none => iprop(emp)) = _
  rw [dec_cell]
theorem expect_cell (c : Dev nD) (k : CK) (r : ℕ) : (Rd (F := F) X).expect (cell c k) r = (dutiesK k r).card * amountK k r := by
  unfold Schedule.expect Schedule.amountOf
  rw [duties_cell, Finset.sum_congr rfl fun d _ => amount_cell X c k r d, Finset.sum_const, smul_eq_mul]

/-- The round each cell ends at. -/
def lastR : CK → ℕ | .bar => 1 | .cr _ P => if P = 0 then 0 else 1 | .rs _ j => rds j | .ss _ j => rds j

theorem duties_later (c : Dev nD) (k : CK) (r : ℕ) (hr : lastR k ≤ r) : (Rd (F := F) X).duties (cell c k) r = ∅ := by
  rw [duties_cell]
  cases k with
  | bar => obtain ⟨r, rfl⟩ := Nat.exists_eq_succ_of_ne_zero (show r ≠ 0 by simp only [lastR] at hr; omega); rfl
  | cr h P =>
    cases r with
    | zero =>
      by_cases hP : P = 0
      · subst hP; rfl
      · simp only [lastR, if_neg hP] at hr; omega
    | succ r => rfl
  | rs h j => simp only [dutiesK]; rw [if_neg (by simp only [lastR] at hr; omega)]
  | ss h j => simp only [dutiesK]; rw [if_neg (by simp only [lastR] at hr; omega)]

/-! ## What a device pays, and in which order -/

/-- A payment: a grant, or what a copy adds to the receiver's cell. -/
inductive Pay
  | grant (h : Half) (P : Fin 6) (j : Fin 3)
  | copy (h : Half) (P : Fin 6) (j : Fin 3)
  deriving DecidableEq

def gcell (h : Half) (P : Fin 6) : CK := if P = 0 then .bar else .cr h P

def Pay.at' : Pay → CK | .grant h P _ => gcell h P | .copy h _ j => .rs h j
def Pay.ax' : Pay → Ax | .grant h P _ => ax h P.val | .copy h P _ => ax h P.val
def Pay.slot : Pay → Fin 3 | .grant _ _ j => j | .copy _ _ j => j
def Pay.lev : Pay → ℕ | .grant _ P _ => 2 * P.val + 1 | .copy _ P _ => 2 * P.val + 2
def Pay.amt : Pay → ℕ | .grant _ _ _ => 1 | .copy h P j => Own.amt h P.val j

/-- Whom device `c` pays, what it owes there, and what it owes for a list of payments. -/
def Pay.dst (u : Pay) (c : Dev nD) : Dev nD := mate u.ax' u.slot c
def Pay.due (u : Pay) (c : Dev nD) : CellTallies nD τ sig ℕ := tallyAt (cell (u.dst c) u.at') u.lev u.amt
def dues : List Pay → Dev nD → CellTallies nD τ sig ℕ
  | [], _ => 0
  | u :: l, c => dues l c + u.due c

def grantsL (h : Half) (P : ℕ) : List Pay := if hP : P < 6 then (sl P).map (.grant h ⟨P, hP⟩) else []
def copiesL (h : Half) (P : ℕ) : List Pay := if hP : P < 6 then (sl P).map (.copy h ⟨P, hP⟩) else []
/-- What is still to be paid with `n` phases to go. -/
def toPay : ℕ → List Pay
  | 0 => []
  | n + 1 => copiesL .a (5 - n) ++ (copiesL .b (5 - n) ++ (grantsL .a (6 - n) ++ (grantsL .b (6 - n) ++ toPay n)))
/-- The grants of the barrier, in its order; everything a device pays. -/
def barL : List Pay := [.grant .a 0 0, .grant .b 0 0, .grant .a 0 1, .grant .b 0 1, .grant .a 0 2, .grant .b 0 2]
def payL : List Pay := barL ++ toPay 6

/-- Every payment of the list sits above level `n`. -/
def Above (n : ℕ) (l : List Pay) : Prop := ∀ u ∈ l, n < u.lev ∧ u.lev < 20

instance (n : ℕ) (l : List Pay) : Decidable (Above n l) := inferInstanceAs (Decidable (∀ u ∈ l, _))

theorem Above.tail {n : ℕ} {u : Pay} {l : List Pay} (h : Above n (u :: l)) : Above n l := fun v hv => h v (List.mem_cons_of_mem _ hv)

theorem dues_pos {l : List Pay} {c : Dev nD} {g : GSem nD τ sig} {i : ℕ} (h : 0 < dues l c g i) : ∃ u ∈ l, g = cell (u.dst c) u.at' ∧ i = u.lev := by
  induction l with
  | nil => exact absurd h (Nat.lt_irrefl 0)
  | cons u l ih =>
    unfold dues at h
    rw [Pi.add_apply, Finsupp.add_apply] at h
    by_cases hu : 0 < u.due c g i
    · unfold Pay.due at hu
      rw [tallyAt_apply] at hu
      by_cases h2 : g = cell (u.dst c) u.at' ∧ i = u.lev
      · exact ⟨u, List.mem_cons_self, h2⟩
      · rw [if_neg h2] at hu; exact absurd hu (Nat.lt_irrefl 0)
    · obtain ⟨v, hv, h⟩ := ih (by omega)
      exact ⟨v, List.mem_cons_of_mem _ hv, h⟩

def L (g : GSem nD τ sig) : Finset ℕ := if g.1.2 = .tc then Finset.range 20 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 20 := if_pos rfl

omit [FloatOps F] in
/-- A wait at a level below everything still owed may be taken. -/
theorem mayWait (c : Dev nD) (sm : SemLoc sig) (i : ℕ) (hi : i < 20) (l : List Pay) (hl : Above i l) :
    (levAts L lv : sProp 𝕄) ⊢ MayWait (c : Thread nD τ) sm i (dues l c) :=
  MayOwe.of_cut (L := L) (lev := lv) i (fun p hp => by rw [Finset.mem_singleton.mp hp, L_tc]; exact Finset.mem_range.mpr hi)
    (fun g i' hg => by
      obtain ⟨u, hu, rfl, rfl⟩ := dues_pos hg
      rw [L_tc]; exact Finset.mem_range.mpr (hl u hu).2)
    (fun p hp => by rw [Finset.mem_singleton.mp hp]; exact le_rfl)
    (fun g i' hg => by
      obtain ⟨u, hu, rfl, rfl⟩ := dues_pos hg
      exact (hl u hu).1)

end Cert.KernelIdeal.Own

end
-- ==== Proof.Ideal.Steps.lean ====
/-
Each operation of the program, from what it needs to what it leaves.

A rule reads: holding what it needs, to run the operation and then `k` it is enough to run `k` holding what it
leaves. `Recs` is what all devices share; `owesL l c` is what device `c` still owes, as a list of payments.
-/
module

public import proofs.«01_k».proof.Proof.Ideal.Sched

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

abbrev WP (c : Dev nD) (Q : PUnit → sProp 𝕄) (k : Pr F) : sProp 𝕄 :=
  wp frame (wpE (defs₀ (F := F)) 𝒱₀ (c : Thread nD τ) none) Set.univ k Q

/-! ## Conjunctions over a list -/

def sepL {α : Type} : List α → (α → sProp 𝕄) → sProp 𝕄
  | [], _ => iprop(emp)
  | a :: l, Φ => iprop(Φ a ∗ sepL l Φ)

omit [FloatOps F] in
theorem sepL_mono {α : Type} {Φ Ψ : α → sProp 𝕄} : ∀ l : List α, (∀ a ∈ l, Φ a ⊢ Ψ a) → sepL l Φ ⊢ sepL l Ψ
  | [], _ => BI.Entails.refl _
  | a :: l, h => BI.sep_mono (h a List.mem_cons_self) (sepL_mono l fun b hb => h b (List.mem_cons_of_mem _ hb))

omit [FloatOps F] in
theorem sepL_congr {α : Type} {Φ Ψ : α → sProp 𝕄} : ∀ l : List α, (∀ a ∈ l, Φ a = Ψ a) → sepL l Φ = sepL l Ψ
  | [], _ => rfl
  | a :: l, h => by
    show iprop(Φ a ∗ sepL l Φ) = iprop(Ψ a ∗ sepL l Ψ)
    rw [h a List.mem_cons_self, sepL_congr l fun b hb => h b (List.mem_cons_of_mem _ hb)]

omit [FloatOps F] in
theorem sepL_append {α : Type} (Φ : α → sProp 𝕄) : ∀ l l' : List α, sepL (l ++ l') Φ ⊢ iprop(sepL l Φ ∗ sepL l' Φ)
  | [], l' => by
    show sepL l' Φ ⊢ iprop(emp ∗ sepL l' Φ)
    iintro H
    isplitr; · iempintro
    iexact H
  | a :: l, l' => by
    show iprop(Φ a ∗ sepL (l ++ l') Φ) ⊢ iprop((Φ a ∗ sepL l Φ) ∗ sepL l' Φ)
    iintro ⟨Ha, H⟩
    ihave H := (sepL_append Φ l l') $$ H
    icases H with ⟨H, H'⟩
    isplitl [Ha H]
    · isplitl [Ha] <;> iassumption
    iexact H'

omit [FloatOps F] in
theorem sepL_sep {α : Type} (Φ Ψ : α → sProp 𝕄) : ∀ l : List α, iprop(sepL l Φ ∗ sepL l Ψ) ⊢ sepL l fun a => iprop(Φ a ∗ Ψ a)
  | [] => by
    show iprop(emp ∗ emp) ⊢ iprop(emp)
    iintro -; iempintro
  | a :: l => by
    show iprop((Φ a ∗ sepL l Φ) ∗ Ψ a ∗ sepL l Ψ) ⊢ iprop((Φ a ∗ Ψ a) ∗ sepL l fun a => iprop(Φ a ∗ Ψ a))
    iintro ⟨⟨Ha, H⟩, Hb, H'⟩
    isplitl [Ha Hb]
    · isplitl [Ha] <;> iassumption
    iapply (sepL_sep Φ Ψ l)
    isplitl [H] <;> iassumption

omit [FloatOps F] in
theorem sepL_unsep {α : Type} (Φ Ψ : α → sProp 𝕄) : ∀ l : List α, sepL l (fun a => iprop(Φ a ∗ Ψ a)) ⊢ iprop(sepL l Φ ∗ sepL l Ψ)
  | [] => by
    show iprop(emp) ⊢ iprop(emp ∗ emp)
    iintro -
    isplitl <;> iempintro
  | a :: l => by
    show iprop((Φ a ∗ Ψ a) ∗ sepL l fun a => iprop(Φ a ∗ Ψ a)) ⊢ iprop((Φ a ∗ sepL l Φ) ∗ Ψ a ∗ sepL l Ψ)
    iintro ⟨⟨Ha, Hb⟩, H⟩
    ihave H := (sepL_unsep Φ Ψ l) $$ H
    icases H with ⟨H, H'⟩
    isplitl [Ha H]
    · isplitl [Ha] <;> iassumption
    isplitl [Hb] <;> iassumption

omit [FloatOps F] in
theorem sepL_map {α β : Type} (g : α → β) (Φ : β → sProp 𝕄) : ∀ l : List α, sepL (l.map g) Φ = sepL l fun a => Φ (g a)
  | [] => rfl
  | a :: l => by
    show iprop(Φ (g a) ∗ sepL (l.map g) Φ) = _
    rw [sepL_map g Φ l]; rfl

omit [FloatOps F] in
theorem bigSep_toFinset {α : Type} [DecidableEq α] (Φ : α → sProp 𝕄) : ∀ l : List α, l.Nodup → bigSep l.toFinset Φ = sepL l Φ
  | [], _ => by rw [List.toFinset_nil, bigSep_empty]; rfl
  | a :: l, h => by
    rw [List.toFinset_cons, bigSep_insert (fun hm => (List.nodup_cons.mp h).1 (List.mem_toFinset.mp hm)), bigSep_toFinset Φ l (List.nodup_cons.mp h).2]; rfl

/-- A loop over slots, one step at a time: `A` is what a step uses up, `B` what it makes, `C` what it changes. -/
theorem wp_each (c : Dev nD) (Q : PUnit → sProp 𝕄) {A B : Fin 3 → sProp 𝕄} {C : List (Fin 3) → sProp 𝕄} (f : Fin 3 → Pr F → Pr F) (k : Pr F) :
    ∀ l : List (Fin 3), (∀ j ∈ l, ∀ l' k', iprop(A j ∗ C (j :: l')) ⊢ iprop((B j ∗ C l' -∗ WP c Q k') -∗ WP c Q (f j k')))
      → iprop(sepL l A ∗ C l) ⊢ iprop((sepL l B ∗ C [] -∗ WP c Q k) -∗ WP c Q (each l f k))
  | [], _ => by
    show iprop(emp ∗ C []) ⊢ iprop((emp ∗ C [] -∗ WP c Q k) -∗ WP c Q k)
    iintro H Hk
    iapply Hk; iexact H
  | j :: l, hf => by
    show iprop((A j ∗ sepL l A) ∗ C (j :: l)) ⊢ iprop(((B j ∗ sepL l B) ∗ C [] -∗ WP c Q k) -∗ WP c Q (f j (each l f k)))
    iintro ⟨⟨Ha, H⟩, HC⟩ Hk
    iapply (hf j List.mem_cons_self l (each l f k)) $$ [Ha HC]
    · isplitl [Ha] <;> iassumption
    iintro ⟨Hb, HC⟩
    iapply (wp_each c Q f k l fun j' hj' => hf j' (List.mem_cons_of_mem _ hj')) $$ [H HC]
    · isplitl [H] <;> iassumption
    iintro ⟨H, HC⟩
    iapply Hk
    isplitl [Hb H]
    · isplitl [Hb] <;> iassumption
    iexact HC

/-! ## Slots -/

section Slots
variable (M : Memref sig .tc .vmem S3x256x1024 .bf16) (c : Dev nD) (j : Fin 3)

theorem slot_sub {n : ℕ} (hn : Ok n) : (M.access (slotR hn j)).set ⊆ (M.access (slotR ok256 j)).set := by
  rw [View.set_slice, View.set_slice]
  refine Finset.map_subset_map.mpr fun i hi => ?_
  rw [Rect.mem_set_unit] at hi ⊢
  intro a
  have h := hi a
  have hle : (B3 n).size a ≤ (B3 256).size a := by
    clear h
    clear hi
    rcases hn with rfl | rfl | rfl <;> revert a <;> decide
  exact ⟨h.1, h.2.trans_le (Nat.add_le_add_left hle _)⟩

omit [FloatOps F] in
theorem slotHas_any {n : ℕ} (hn : Ok n) (v : (B3 n).Idx → Elt F .bf16) : slotHas M c j hn v ⊢ (slotAny M c j : sProp 𝕄) := by
  unfold slotHas slotAny
  iintro ⟨%f, -, H⟩
  iexists f; iexact H

omit [FloatOps F] in
theorem partHas_any {n : ℕ} (hn : Ok n) (q) (v : (B3 n).Idx → Elt F .bf16) : partHas M c j hn q v ⊢ (partAny M c j hn q : sProp 𝕄) := by
  unfold partHas partAny
  iintro ⟨%f, -, H⟩
  iexists f; iexact H

omit [FloatOps F] in
theorem slot_split {n : ℕ} (hn : Ok n) (v : (B3 n).Idx → Elt F .bf16) :
    slotHas M c j hn v ⊢ (iprop(partHas M c j hn fullShare v ∗ restAny M c j hn) : sProp 𝕄) := by
  unfold slotHas partHas restAny
  iintro ⟨%f, %hf, H⟩
  ihave H := (pointsTo_split_subset (slot_sub M j hn)).1 $$ H
  icases H with ⟨H, H'⟩
  isplitl [H]
  · iexists f; isplitr
    · ipureintro; exact hf
    iexact H
  · iexists f; iexact H'

omit [FloatOps F] in
theorem slot_join_has {n : ℕ} (hn : Ok n) (v : (B3 n).Idx → Elt F .bf16) (f g : Buf (Elt F) (M.view.loc (c : Thread nD τ)))
    (hg : (M.access (slotR hn j)).read (Elt F) g = v) :
    iprop((M.view.loc (c : Thread nD τ) ↦[(M.access (slotR hn j)).set]{fullShare} g)
      ∗ M.view.loc (c : Thread nD τ) ↦[(M.access (slotR ok256 j)).set \ (M.access (slotR hn j)).set]{fullShare} f)
      ⊢ (slotHas M c j hn v : sProp 𝕄) := by
  refine (pointsTo_join_subset (slot_sub M j hn)).trans ?_
  unfold slotHas
  iintro H
  iexists _
  isplitr; rotate_left
  · iexact H
  ipureintro
  rw [← hg]
  exact View.read_congr fun i hi => Finset.piecewise_eq_of_mem _ _ _ hi

omit [FloatOps F] in
theorem slot_join {n : ℕ} (hn : Ok n) : iprop(partAny M c j hn fullShare ∗ restAny M c j hn) ⊢ (slotAny M c j : sProp 𝕄) := by
  unfold partAny restAny
  iintro ⟨⟨%g, H⟩, ⟨%f, H'⟩⟩
  iapply (slotHas_any M c j hn _)
  iapply (slot_join_has M c j hn _ f g rfl)
  isplitl [H] <;> iassumption

omit [FloatOps F] in
theorem part_share {n : ℕ} (hn : Ok n) {q q₁ q₂ : PosShare TreeShare} (h : q ∈ PCS.op q₁ q₂) (v : (B3 n).Idx → Elt F .bf16) :
    partHas M c j hn q v ⊢ (iprop(partHas M c j hn q₁ v ∗ partHas M c j hn q₂ v) : sProp 𝕄) := by
  unfold partHas
  iintro ⟨%f, %hf, H⟩
  ihave H := (pointsTo_share h).1 $$ H
  icases H with ⟨H, H'⟩
  isplitl [H]
  · iexists f; isplitr
    · ipureintro; exact hf
    iexact H
  · iexists f; isplitr
    · ipureintro; exact hf
    iexact H'

omit [FloatOps F] in
theorem part_unshare {n : ℕ} (hn : Ok n) {q q₁ q₂ : PosShare TreeShare} (h : q ∈ PCS.op q₁ q₂) :
    iprop(partAny M c j hn q₁ ∗ partAny M c j hn q₂) ⊢ (partAny M c j hn q : sProp 𝕄) := by
  unfold partAny
  iintro ⟨⟨%f, H⟩, ⟨%g, H'⟩⟩
  ihave H := (persistent_entails_right pointsTo_agree) $$ [H H']
  · isplitl [H] <;> iassumption
  icases H with ⟨%hfg, H, H'⟩
  iexists f
  iapply (pointsTo_share h).2
  isplitl [H]; · iexact H
  rw [pointsTo_congr (f := f) (g := g) fun i hi => (hfg i (Finset.mem_inter.mpr ⟨hi, hi⟩)).1]
  iexact H'

variable {n : ℕ} (hn : Ok n)

theorem wp_loadS (Q : PUnit → sProp 𝕄) (v : (B3 n).Idx → Elt F .bf16) (k : Vec F (B3 n) .bf16 → Pr F) :
    slotHas M c j hn v ⊢ iprop((slotHas M c j hn v -∗ WP c Q (k v)) -∗ WP c Q (loadS hn M j k)) := by
  unfold slotHas loadS
  iintro ⟨%f, %hf, H⟩ Hk
  iapply (wp_load_rect 𝒱₀ (c : Thread nD τ) none Set.univ (m := M) (r := slotR hn j) (slot_sub M j hn)) $$ H
  iintro H
  rw [hf]
  iapply Hk
  iexists f
  isplitr
  · ipureintro; exact hf
  iexact H

theorem wp_loadS_any (Q : PUnit → sProp 𝕄) (k : Pr F) :
    slotAny M c j ⊢ iprop((slotAny M c j -∗ WP c Q k) -∗ WP c Q (loadS hn M j fun _ => k)) := by
  unfold slotAny loadS
  iintro ⟨%f, H⟩ Hk
  iapply (wp_load_rect 𝒱₀ (c : Thread nD τ) none Set.univ (m := M) (r := slotR hn j) (slot_sub M j hn)) $$ H
  iintro H
  iapply Hk
  iexists f
  iexact H

theorem wp_storeS (Q : PUnit → sProp 𝕄) (hM : M.IsWhole) (v : (B3 n).Idx → Elt F .bf16) (k : Pr F) :
    slotAny M c j ⊢ iprop((slotHas M c j hn v -∗ WP c Q k) -∗ WP c Q (storeS hn M hM j v k)) := by
  unfold slotAny slotHas storeS
  iintro ⟨%f, H⟩ Hk
  iapply (wp_store 𝒱₀ (c : Thread nD τ) none Set.univ (m := M) (r := slotR hn j) (w := v) (Mk := Finset.univ) (slot_sub M j hn)) $$ H
  iintro H
  iapply Hk
  iexists _
  isplitr; rotate_left
  · iexact H
  ipureintro
  exact View.read_write_univ (v := M.access (slotR hn j)) f v

end Slots

/-! ## The argument and the result -/

section Whole
variable (c : Dev nD) {n : ℕ} (hn : Ok n) (o : Off n)

def xRes (x : S2048x1024.Idx → Elt F .bf16) : sProp 𝕄 := ((c : Thread nD τ).loc cc0_stg0_0) ↦{fullShare} (x : Buf (Elt F) ((c : Thread nD τ).loc cc0_stg0_0))
def oRes (g : S2048x1024.Idx → Elt F .f32) : sProp 𝕄 := ((c : Thread nD τ).loc cc0_stg1_0) ↦{fullShare} (g : Buf (Elt F) ((c : Thread nD τ).loc cc0_stg1_0))

theorem wp_loadX (Q : PUnit → sProp 𝕄) (x : S2048x1024.Idx → Elt F .bf16) (k : Vec F (B2 n) .bf16 → Pr F) :
    xRes c x ⊢ iprop((xRes c x -∗ WP c Q (k fun y => x ((rowR o).emb y))) -∗ WP c Q (loadX hn o k)) :=
  wp_load_rect 𝒱₀ (c : Thread nD τ) none Set.univ (m := xM) (r := rowR o) (Finset.subset_univ _)

theorem wp_loadO (Q : PUnit → sProp 𝕄) (g : S2048x1024.Idx → Elt F .f32) (k : Vec F (B2 n) .f32 → Pr F) :
    oRes c g ⊢ iprop((oRes c g -∗ WP c Q (k fun y => g ((rowR o).emb y))) -∗ WP c Q (loadO hn o k)) :=
  wp_load_rect 𝒱₀ (c : Thread nD τ) none Set.univ (m := oM) (r := rowR o) (Finset.subset_univ _)

theorem wp_storeO (Q : PUnit → sProp 𝕄) {r : ℕ} (ho : o.row = ![r, 0]) (g w : S2048x1024.Idx → Elt F .f32) (v : Vec F (B2 n) .f32) (hv : ∀ y, v y = w ((rowR o).emb y)) (k : Pr F) :
    oRes c g ⊢ iprop((oRes c (fun i => if inRows r n i then w i else g i) -∗ WP c Q k) -∗ WP c Q (storeO hn o v k)) := by
  rw [← write_rows hn o ho g v w hv]
  unfold oRes storeO
  iintro H Hk
  iapply (wp_store 𝒱₀ (c : Thread nD τ) none Set.univ (m := oM) (r := rowR o) (w := v) (Mk := Finset.univ) (Finset.subset_univ _)) $$ H
  iexact Hk

end Whole

end Cert.KernelIdeal.Own

end
-- ==== Proof.Ideal.Talk.lean ====
/-
The operations that talk to other devices: grants, waits for grants, copies and the waits for them.
-/
module

public import proofs.«01_k».proof.Proof.Ideal.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S2048x1024.Idx → Elt F .bf16)

/-! ## What all devices share, and what one holds -/

/-- The levels of all cells. -/
def Lev : sProp 𝕄 := levAts L lv
instance Lev_persistent : BI.Persistent (Lev (F := F)) := by unfold Lev; infer_instance
theorem Lev_may (c : Dev nD) (sm : SemLoc sig) (i : ℕ) (hi : i < 20) (l : List Pay) (hl : Above i l) :
    Lev (F := F) ⊢ MayWait (c : Thread nD τ) sm i (dues l c) := mayWait c sm i hi l hl

/-- Every cell's invariant, that its first round is reached, and the levels. -/
def Recs (K : Dev nD × CK → ℕ) : sProp 𝕄 :=
  iprop((bigSep Finset.univ fun ck : Dev nD × CK => cellInv ER (Rd X) (K ck) (kcell ck))
    ∗ (bigSep Finset.univ fun ck : Dev nD × CK => reached ER (kcell ck) 0) ∗ Lev)

instance Recs_persistent (K : Dev nD × CK → ℕ) : BI.Persistent (Recs (F := F) X K) := by unfold Recs; infer_instance

theorem inv_at (K : Dev nD × CK → ℕ) (ck : Dev nD × CK) :
    (bigSep Finset.univ fun ck : Dev nD × CK => (cellInv ER (Rd X) (K ck) (kcell ck) : sProp 𝕄)) ⊢ cellInv ER (Rd X) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem Recs_inv (K : Dev nD × CK → ℕ) (c : Dev nD) (k : CK) : Recs X K ⊢ (cellInv ER (Rd X) (K (c, k)) (cell c k) : sProp 𝕄) := by
  unfold Recs
  iintro ⟨H, -, -⟩
  ihave H := inv_at X K (c, k) $$ H
  iexact H
theorem Recs_reached (K : Dev nD × CK → ℕ) (c : Dev nD) (k : CK) : Recs X K ⊢ (reached ER (cell c k) 0 : sProp 𝕄) := by
  unfold Recs
  iintro ⟨-, H, -⟩
  ihave H := reached_at (F := F) (c, k) $$ H
  iexact H
theorem Recs_may (K : Dev nD × CK → ℕ) (c : Dev nD) (sm : SemLoc sig) (i : ℕ) (hi : i < 20) (l : List Pay) (hl : Above i l) :
    Recs X K ⊢ (MayWait (c : Thread nD τ) sm i (dues l c) : sProp 𝕄) := by
  unfold Recs
  refine sep_elim_right.trans (sep_elim_right.trans ?_)
  exact Lev_may c sm i hi l hl

theorem Above.zero {i : ℕ} {l : List Pay} (h : Above i l) : Above 0 l := fun u hu => by have := h u hu; omega

def owesL (l : List Pay) (c : Dev nD) : sProp 𝕄 := iprop(∃ W, owes (c : Thread nD τ) (dues l c) W)

/-- The duties a payment needs: a grant the one it pays, a copy the receiver's and its own. -/
def tok (c : Dev nD) (u : Pay) : sProp 𝕄 :=
  match u with
  | .grant h P j => dutyTok ER (cell (u.dst c) u.at') 0 ((h, bk (ax h P.val) j) : D)
  | .copy h P j => iprop(dutyTok ER (cell (u.dst c) u.at') (rd j P.val) d0 ∗ dutyTok ER (cell c (.ss h j)) (rd j P.val) d0)

/-- Where the two cells of a slot stand before phase `P`. -/
def posJ (c : Dev nD) (h : Half) (P : ℕ) (j : Fin 3) : sProp 𝕄 :=
  iprop(atPos ER (cell c (.rs h j)) (rd j P) ∅ 0 ∗ reached ER (cell c (.rs h j)) (rd j P)
    ∗ atPos ER (cell c (.ss h j)) (rd j P) ∅ 0 ∗ reached ER (cell c (.ss h j)) (rd j P))

/-- The credit for what arrives in slot `j`, and for the copy from it. -/
def rsCred (c : Dev nD) (h : Half) (P : ℕ) (j : Fin 3) : sProp 𝕄 := cred (tallyAt (cell c (.rs h j)) (2 * P + 2) (amt h P j))
def ssCred (c : Dev nD) (h : Half) (P : ℕ) (j : Fin 3) : sProp 𝕄 := cred (tallyAt (cell c (.ss h j)) 0 (amt h P j))

/-- The rows to be copied to slot `j`. -/
def srcPart (c : Dev nD) (h : Half) (P : ℕ) (j : Fin 3) : sProp 𝕄 :=
  partHas (sendM h) c (srcOf P j) (nr_ok P) (shr P j) (blk (nr P) (VB X h P c) (soR h P j.val c.val))

/-! ## Grants -/

theorem dutiesK_cr (h : Half) (P : Fin 6) (hP : P ≠ 0) : dutiesK (.cr h P) 0 = ((sl P.val).map fun j => (h, j)).toFinset := if_neg hP

theorem mem_gduties (h : Half) (P : Fin 6) (j : Fin 3) (hj : j ∈ sl P.val) : (h, j) ∈ dutiesK (gcell h P) 0 := by
  unfold gcell
  by_cases hP : P = 0
  · rw [if_pos hP]; exact Finset.mem_univ _
  · rw [if_neg hP, dutiesK_cr h P hP]
    exact List.mem_toFinset.mpr (List.mem_map.mpr ⟨j, hj, rfl⟩)

theorem payK_gcell (c : Dev nD) (h : Half) (P : Fin 6) (j : Fin 3) : payK X c (gcell h P) 0 (h, j) = grantPay h P.val j c := by
  unfold gcell
  by_cases hP : P = 0
  · subst hP; rfl
  · rw [if_neg hP]; rfl

theorem amountK_gcell (h : Half) (P : Fin 6) : amountK (gcell h P) 0 = 1 := by
  unfold gcell
  by_cases hP : P = 0
  · rw [if_pos hP]; rfl
  · rw [if_neg hP]; rfl

/-- The semaphore a grant signals. -/
def gsem (h : Half) (P : Fin 6) : Sem sig := if P = 0 then barS else semC (crA h) P
theorem semOf_gcell (h : Half) (P : Fin 6) : semOf (gcell h P) = .reg (gsem h P) := by
  unfold gcell gsem
  by_cases hP : P = 0
  · rw [if_pos hP, if_pos hP]; rfl
  · rw [if_neg hP, if_neg hP]; rfl

theorem wp_grant (K : Dev nD × CK → ℕ) (c : Dev nD) (Q : PUnit → sProp 𝕄) (h : Half) (P : Fin 6) (j : Fin 3) (hj : j ∈ sl P.val) (l : List Pay)
    (s : Sem sig) (hs : s = gsem h P) (d : Dev nD) (hd : d = mate (ax h P.val) j c) (k : Pr F) :
    iprop(Recs X K ∗ tok c (.grant h P j) ∗ slotAny (recvM h) c (bk (ax h P.val) j)
        ∗ reached ER (cell c (.rs h (bk (ax h P.val) j))) (rd (bk (ax h P.val) j) P.val) ∗ owesL (.grant h P j :: l) c)
      ⊢ iprop((owesL l c -∗ WP c Q k) -∗ WP c Q (grant s d k)) := by
  subst hd hs
  unfold owesL
  iintro ⟨#HR, Ht, Hs, Hr, ⟨%W, HO⟩⟩ Hk
  unfold grant
  have e : (cell (mate (ax h P.val) j c) (gcell h P) : GSem nD τ sig) = ((mate (ax h P.val) j c : Thread nD τ), .reg (gsem h P)) := by
    unfold cell; rw [semOf_gcell]
  have hb : bk (ax h P.val) j ∈ sl P.val := bk_mem h (Fin.castSucc P) j hj
  iapply (Rounds.wp_signal 𝒱₀ ER (Rd X) (c : Thread nD τ) none (dst := (mate (ax h P.val) j c : Thread nD τ)) (sem := gsem h P)
      (κ := K (mate (ax h P.val) j c, gcell h P)) (r := 0) (d := (h, bk (ax h P.val) j))
      (by rw [← e, duties_cell]; exact mem_gduties h P _ hb) (by rw [← e, amount_cell, amountK_gcell]; decide) (2 * P.val + 1) (dues l c)
      (show dues (.grant h P j :: l) c = dues l c + _ by rw [← e]; rfl)) $$ [HR HO Ht Hs Hr]
  · rw [← e]
    isplitr; · iapply (Recs_inv X K _ _); iexact HR
    isplitl [HO]; · iexact HO
    isplitl [Ht]
    · unfold tok; iexact Ht
    isplitl [Hs Hr]
    · rw [payload_cell, payK_gcell]
      unfold grantPay
      rw [mate_bk]
      isplitl [Hs] <;> iassumption
    iapply (Recs_reached X K _ _); iexact HR
  iintro HO
  iapply Hk
  iexists W; iexact HO

/-- A wait for the whole first round of a counting cell. -/
theorem wp_wait_cell (K : Dev nD × CK → ℕ) (c : Dev nD) (Q : PUnit → sProp 𝕄) (kk : CK) (s : Sem sig) (hs : semOf kk = .reg s) (i : ℕ) (hi : i < 20)
    (l : List Pay) (hl : Above i l) (w : BitVec 32) (n : ℕ) (hw : w.toInt = (n : ℤ)) (hn : (dutiesK kk 0).card * amountK kk 0 = n) (k : Pr F) :
    iprop(Recs X K ∗ cred (tallyAt (cell c kk) i n) ∗ atPos ER (cell c kk) 0 ∅ 0 ∗ owesL l c)
      ⊢ iprop((owesL l c ∗ atPos ER (cell c kk) 1 ∅ 0 ∗ bigSep (dutiesK kk 0) (payK X c kk 0) -∗ WP c Q k) -∗ WP c Q (await s w k)) := by
  have e : (cell c kk : GSem nD τ sig) = ((c : Thread nD τ), .reg s) := by unfold cell; rw [hs]
  have hd : (Rd X).duties ((c : Thread nD τ), .reg s) 0 = dutiesK kk 0 := by rw [← e, duties_cell]
  have hx : 0 + n = (Rd X).expect ((c : Thread nD τ), .reg s) 0 := by rw [← e, expect_cell, hn, Nat.zero_add]
  have hp : (fun d => (Rd X).payload ((c : Thread nD τ), .reg s) 0 d) = payK X c kk 0 := by
    rw [← e]; funext d; exact payload_cell X c kk 0 d
  have hi' := Recs_inv X K c kk
  rw [e] at hi' ⊢
  unfold owesL
  iintro ⟨#HR, Hc, Hat, ⟨%W, HO⟩⟩ Hk
  unfold await
  rw [hw]
  iapply (Rounds.wp_wait_rest_token 𝒱₀ ER (Rd X) (c : Thread nD τ) none (κ := K (c, kk))
      (wpE_semWait_eq 𝒱₀ (c : Thread nD τ) none Set.univ) (Set.mem_univ _) i (O := dues l c) (W := W) (R := 0) (m := 0) (T := ∅) hx) $$ [Hc HO Hat]
  · isplitr; · iapply hi'; iexact HR
    isplitl [Hc]; · iexact Hc
    isplitl [HO]; · iexact HO
    isplitr
    · iapply (Recs_may X K c (.reg s) i hi l hl); iexact HR
    iexact Hat
  rw [Finset.sdiff_empty, hd, hp]
  iintro ⟨HO, Hat, -, Hp⟩
  iapply Hk
  isplitl [HO]; · iexists _; iexact HO
  isplitl [Hat]; · iexact Hat
  iexact Hp

/-- A wait for a phase's grants: the mates' receive slots. -/
theorem wp_await (K : Dev nD × CK → ℕ) (c : Dev nD) (Q : PUnit → sProp 𝕄) (h : Half) (P : Fin 6) (hP : P ≠ 0) (l : List Pay) (hl : Above (2 * P.val + 1) l)
    (k : Pr F) :
    iprop(Recs X K ∗ cred (tallyAt (cell c (.cr h P)) (2 * P.val + 1) (sl P.val).length) ∗ atPos ER (cell c (.cr h P)) 0 ∅ 0 ∗ owesL l c)
      ⊢ iprop((owesL l c ∗ atPos ER (cell c (.cr h P)) 1 ∅ 0 ∗ sepL (sl P.val) (fun j => grantPay h P.val j c) -∗ WP c Q k)
        -∗ WP c Q (await (semC (crA h) P) (crW P.val) k)) := by
  have hnd : ((sl P.val).map fun j => (h, j)).Nodup := by clear hl hP; revert P; cases h <;> decide
  have e : bigSep (dutiesK (.cr h P) 0) (payK X c (.cr h P) 0) = sepL (sl P.val) (fun j => (grantPay h P.val j c : sProp 𝕄)) := by
    rw [dutiesK_cr h P hP, bigSep_toFinset _ _ hnd, sepL_map]; rfl
  rw [← e]
  refine wp_wait_cell X K c Q (.cr h P) (semC (crA h) P) rfl (2 * P.val + 1) (by omega) l hl (crW P.val) (sl P.val).length ?_ ?_ k
  · clear hl hP hnd e; revert P; decide
  · rw [dutiesK_cr h P hP, List.toFinset_card_of_nodup hnd, List.length_map]; exact Nat.mul_one _

/-! ## Copies -/

theorem dutiesK_rs (h : Half) (P : Fin 6) (j : Fin 3) (hj : j ∈ sl P.val) : dutiesK (.rs h j) (rd j P.val) = {d0} := if_pos (rd_lt P j hj)
theorem dutiesK_ss (h : Half) (P : Fin 6) (j : Fin 3) (hj : j ∈ sl P.val) : dutiesK (.ss h j) (rd j P.val) = {d0} := if_pos (rd_lt P j hj)

theorem payK_rs (c : Dev nD) (h : Half) (P : Fin 6) (j : Fin 3) (hj : j ∈ sl P.val) : payK X c (.rs h j) (rd j P.val) d0 = recvPay X h P.val j c := by
  show recvPay X h (phOf j (rd j P.val)) j c = _
  rw [phOf_rd P j hj]
theorem payK_ss (c : Dev nD) (h : Half) (P : Fin 6) (j : Fin 3) (hj : j ∈ sl P.val) : payK X c (.ss h j) (rd j P.val) d0 = sendPay h P.val j c := by
  show sendPay h (phOf j (rd j P.val)) j c = _
  rw [phOf_rd P j hj]
theorem amountK_rs (h : Half) (P : Fin 6) (j : Fin 3) (hj : j ∈ sl P.val) : amountK (.rs h j) (rd j P.val) = amt h P.val j := by
  show amt h (phOf j (rd j P.val)) j = _
  rw [phOf_rd P j hj]
theorem amountK_ss (h : Half) (P : Fin 6) (j : Fin 3) (hj : j ∈ sl P.val) : amountK (.ss h j) (rd j P.val) = amt h P.val j := by
  show amt h (phOf j (rd j P.val)) j = _
  rw [phOf_rd P j hj]

/-- What a copy writes reads back as what was copied. -/
theorem read_copy (M M' : Memref sig .tc .vmem S3x256x1024 .bf16) {n : ℕ} (hn : Ok n) (j s : Fin 3) (fd : M'.view.ty.Contents (Elt F))
    (fs : M.view.ty.Contents (Elt F)) :
    (M'.access (slotR hn j)).read (Elt F) ((slotM M' hn j).view.write (Elt F) fd ((slotM M hn s).view.read (Elt F) fs) Finset.univ)
      = (M.access (slotR hn s)).read (Elt F) fs := by
  have hview : (slotM M' hn j).view = (M'.access (slotR hn j)).reshape (B2 n) (squeezes3 hn).numel_eq := rfl
  rw [show (slotM M' hn j).view.write (Elt F) fd ((slotM M hn s).view.read (Elt F) fs) Finset.univ
      = ((M'.access (slotR hn j)).reshape (B2 n) (squeezes3 hn).numel_eq).write (Elt F) fd ((slotM M hn s).view.read (Elt F) fs) Finset.univ from rfl,
    View.write_reshape_univ, View.read_write_univ]
  funext x
  show (M.access (slotR hn s)).read (Elt F) fs (Shape.reshapeEquiv (squeezes3 hn).numel_eq ((Shape.reshapeEquiv (squeezes3 hn).numel_eq).symm x)) = _
  rw [Equiv.apply_symm_apply]

theorem wp_start (K : Dev nD × CK → ℕ) (c : Dev nD) (Q : PUnit → sProp 𝕄) (h : Half) (P : Fin 6) (j : Fin 3) (hj : j ∈ sl P.val) (l : List Pay)
    (d : Dev nD) (hd : d = mate (ax h P.val) j c) (k : Pr F) :
    iprop(Recs X K ∗ tok c (.copy h P j) ∗ srcPart X c h P.val j ∗ grantPay h P.val j c ∗ reached ER (cell c (.ss h j)) (rd j P.val)
        ∗ owesL (.copy h P j :: l) c)
      ⊢ iprop((ssCred c h P.val j ∗ owesL l c -∗ WP c Q k) -∗ WP c Q (start (nr_ok P.val) h (srcOf P.val j) j d k)) := by
  subst hd
  unfold owesL srcPart grantPay partHas slotAny ssCred tok
  iintro ⟨#HR, ⟨Ht, Ht'⟩, ⟨%fs, %hfs, Hsrc⟩, ⟨⟨%fd, Hdst⟩, Hrr⟩, Hrs, ⟨%W, HO⟩⟩ Hk
  unfold start
  ihave Hdst := (pointsTo_split_subset (slot_sub (recvM h) j (nr_ok P.val))).1 $$ Hdst
  icases Hdst with ⟨Hdst, Hrest⟩
  iapply (Rounds.wp_send_pointsTo_with 𝒱₀ ER (Rd X) (c : Thread nD τ) none
      (κ₁ := K (c, .ss h j)) (κ₂ := K (mate (ax h P.val) j c, .rs h j)) (c' := (mate (ax h P.val) j c : Thread nD τ))
      (src := slotM (sendM h) (nr_ok P.val) (srcOf P.val j)) (dst := slotM (recvM h) (nr_ok P.val) j)
      (q := shr P.val j) (fs := fs) (fd := fd)
      (F := (recvM h).view.loc (mate (ax h P.val) j c : Thread nD τ)
        ↦[((recvM h).access (slotR ok256 j)).set \ ((recvM h).access (slotR (nr_ok P.val) j)).set]{fullShare} fd)
      (r₁ := rd j P.val) (r₂ := rd j P.val) (d₁ := d0) (d₂ := d0)
      (by show d0 ∈ (Rd X).duties (cell c (.ss h j)) _; rw [duties_cell, dutiesK_ss h P j hj]; exact Finset.mem_singleton_self _)
      (by show d0 ∈ (Rd X).duties (cell (mate (ax h P.val) j c) (.rs h j)) _; rw [duties_cell, dutiesK_rs h P j hj]; exact Finset.mem_singleton_self _)
      (2 * P.val + 2) 0 (amt h P.val j) rfl
      (by show (Rd X).amount (cell c (.ss h j)) _ _ = _; rw [amount_cell, amountK_ss h P j hj])
      (by show (Rd X).amount (cell (mate (ax h P.val) j c) (.rs h j)) _ _ = _; rw [amount_cell, amountK_rs h P j hj])
      (dues l c) rfl (W := W)
      (by
        show _ ⊢ (Rd X).payload (cell c (.ss h j)) _ _
        rw [payload_cell, payK_ss X c h P j hj]
        unfold sendPay partAny
        iintro H
        iexists fs
        rw [← View.set_reshape (v := (sendM h).access (slotR (nr_ok P.val) (srcOf P.val j))) (s' := B2 (nr P.val)) (squeezes3 (nr_ok P.val)).numel_eq]
        iexact H)
      (by
        show _ ⊢ (Rd X).payload (cell (mate (ax h P.val) j c) (.rs h j)) _ _
        rw [payload_cell, payK_rs X _ h P j hj]
        unfold recvPay
        iintro ⟨H1, H2⟩
        iapply (slot_join_has (recvM h) _ j (nr_ok P.val) _ fd
          ((slotM (recvM h) (nr_ok P.val) j).view.write (Elt F) fd ((slotM (sendM h) (nr_ok P.val) (srcOf P.val j)).view.read (Elt F) fs) Finset.univ)
          ((read_copy (sendM h) (recvM h) (nr_ok P.val) j (srcOf P.val j) fd fs).trans (hfs.trans (got_mate X h P j hj c).symm)))
        isplitl [H1]
        · rw [← View.set_reshape (v := (recvM h).access (slotR (nr_ok P.val) j)) (s' := B2 (nr P.val)) (squeezes3 (nr_ok P.val)).numel_eq]
          iexact H1
        iexact H2))
    $$ [HR Ht Ht' Hsrc Hdst Hrest Hrr Hrs HO]
  · isplitr; · iapply (Recs_inv X K c (.ss h j)); iexact HR
    isplitr; · iapply (Recs_inv X K (mate (ax h P.val) j c) (.rs h j)); iexact HR
    isplitl [Hsrc]
    · rw [← View.set_reshape (v := (sendM h).access (slotR (nr_ok P.val) (srcOf P.val j))) (s' := B2 (nr P.val)) (squeezes3 (nr_ok P.val)).numel_eq]
      iexact Hsrc
    isplitl [Hdst Hrest]
    · isplitl [Hdst]
      · rw [← View.set_reshape (v := (recvM h).access (slotR (nr_ok P.val) j)) (s' := B2 (nr P.val)) (squeezes3 (nr_ok P.val)).numel_eq]
        iexact Hdst
      iexact Hrest
    isplitl [HO]; · iexact HO
    isplitl [Ht']; · iexact Ht'
    isplitl [Hrs]; · iexact Hrs
    isplitl [Ht]; · iexact Ht
    iexact Hrr
  iintro ⟨Hc, HO⟩
  iapply Hk
  isplitl [Hc]; · iexact Hc
  iexists W; iexact HO

/-- The two waits of a slot: the copied rows back, and what arrived. -/
theorem wp_finish (K : Dev nD × CK → ℕ) (c : Dev nD) (Q : PUnit → sProp 𝕄) (h : Half) (P : Fin 6) (j : Fin 3) (hj : j ∈ sl P.val) (l : List Pay)
    (hl : Above (2 * P.val + 2) l) (k : Pr F) :
    iprop(Recs X K ∗ posJ c h P.val j ∗ ssCred c h P.val j ∗ rsCred c h P.val j ∗ owesL l c)
      ⊢ iprop((posJ c h (P.val + 1) j ∗ sendPay h P.val j c ∗ recvPay X h P.val j c ∗ owesL l c -∗ WP c Q k)
        -∗ WP c Q (finish (nr_ok P.val) h (srcOf P.val j) j k)) := by
  unfold owesL posJ ssCred rsCred finish
  iintro ⟨#HR, ⟨Har, -, Has, -⟩, Hcs, Hcr, ⟨%W, HO⟩⟩ Hk
  iapply (Rounds.wp_wait_rest_token 𝒱₀ ER (Rd X) (c : Thread nD τ) none (κ := K (c, .ss h j)) (k' := amt h P.val j)
      (fun K' => (wpE_waitDma2_eq 𝒱₀ (c : Thread nD τ) none Set.univ K').trans (by rw [amt_send]))
      (Set.mem_univ _) 0 (O := dues l c) (W := W) (R := rd j P.val) (m := 0) (T := ∅)
      (by
        show 0 + _ = (Rd X).expect (cell c (.ss h j)) _
        rw [expect_cell, dutiesK_ss h P j hj, amountK_ss h P j hj, Finset.card_singleton, Nat.one_mul, Nat.zero_add])) $$ [Hcs HO Has]
  · isplitr; · iapply (Recs_inv X K c (.ss h j)); iexact HR
    isplitl [Hcs]; · iexact Hcs
    isplitl [HO]; · iexact HO
    isplitr
    · iapply (Recs_may X K c (semOf (.ss h j)) 0 (by decide) l hl.zero); iexact HR
    iexact Has
  iintro ⟨HO, Has, Hrs, Hps⟩
  iapply (Rounds.wp_wait_rest_token 𝒱₀ ER (Rd X) (c : Thread nD τ) none (κ := K (c, .rs h j)) (k' := amt h P.val j)
      (wpE_waitDma2_eq 𝒱₀ (c : Thread nD τ) none Set.univ)
      (Set.mem_univ _) (2 * P.val + 2) (O := dues l c) (R := rd j P.val) (m := 0) (T := ∅)
      (by
        show 0 + _ = (Rd X).expect (cell c (.rs h j)) _
        rw [expect_cell, dutiesK_rs h P j hj, amountK_rs h P j hj, Finset.card_singleton, Nat.one_mul, Nat.zero_add])) $$ [Hcr HO Har]
  · isplitr; · iapply (Recs_inv X K c (.rs h j)); iexact HR
    isplitl [Hcr]; · iexact Hcr
    isplitl [HO]; · iexact HO
    isplitr
    · iapply (Recs_may X K c (semOf (.rs h j)) (2 * P.val + 2) (by omega) l hl); iexact HR
    iexact Har
  iintro ⟨HO, Har, Hrr, Hpr⟩
  iapply Hk
  rw [← rd_succ P j hj]
  isplitl [Har Hrr Has Hrs]
  · isplitl [Har]; · iexact Har
    isplitl [Hrr]; · iexact Hrr
    isplitl [Has]; · iexact Has
    iexact Hrs
  isplitl [Hps]
  · have e : bigSep ((Rd X).duties (cell c (.ss h j)) (rd j P.val) \ ∅) (fun d => (Rd X).payload (cell c (.ss h j)) (rd j P.val) d)
        = (sendPay h P.val j c : sProp 𝕄) := by
      rw [Finset.sdiff_empty, duties_cell, dutiesK_ss h P j hj, bigSep_singleton, payload_cell, payK_ss X c h P j hj]
    iapply (Entails.of_eq e); iexact Hps
  isplitl [Hpr]
  · have e : bigSep ((Rd X).duties (cell c (.rs h j)) (rd j P.val) \ ∅) (fun d => (Rd X).payload (cell c (.rs h j)) (rd j P.val) d)
        = (recvPay X h P.val j c : sProp 𝕄) := by
      rw [Finset.sdiff_empty, duties_cell, dutiesK_rs h P j hj, bigSep_singleton, payload_cell, payK_rs X c h P j hj]
    iapply (Entails.of_eq e); iexact Hpr
  iexists _; iexact HO

end Cert.KernelIdeal.Own

end
-- ==== Proof.Ideal.Local.lean ====
/-
Staging rows for sending, and taking in the rows that arrived.
-/
module

public import proofs.«01_k».proof.Proof.Ideal.Talk

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S2048x1024.Idx → Elt F .bf16)

/-! ## The result buffer, right on a half's rows -/

/-- The result buffer with half `h` right as before phase `P` and the other half as before phase `P'`. -/
def outH (h : Half) (P P' : ℕ) (c : Dev nD) : sProp 𝕄 := iprop(∃ g, ⌜Inv X h P c g ∧ Inv X (oth h) P' c g⌝ ∗ oRes c g)

theorem outH_flip (P P' : ℕ) (c : Dev nD) : ∀ h, outH X h P P' c ⊢ (outH X (oth h) P' P c : sProp 𝕄)
  | .a => by
    unfold outH
    iintro ⟨%g, %hg, H⟩
    iexists g
    isplitr; · ipureintro; exact ⟨hg.2, hg.1⟩
    iexact H
  | .b => by
    unfold outH
    iintro ⟨%g, %hg, H⟩
    iexists g
    isplitr; · ipureintro; exact ⟨hg.2, hg.1⟩
    iexact H

/-! ## Staging -/

/-- What is staged in send slot `j`. -/
def stagedSlot (c : Dev nD) (h : Half) (P : ℕ) (j : Fin 3) : sProp 𝕄 :=
  slotHas (sendM h) c j (nr_ok P) (blk (nr P) (VB X h P c) (soR h P j.val c.val))

theorem wp_stageX (c : Dev nD) (Q : PUnit → sProp 𝕄) (h : Half) (j : Fin 3) (o : Off (nr 0)) (ho : o.row = ![soR h 0 j.val c.val, 0]) (R : sProp 𝕄) (k : Pr F) :
    iprop(slotAny (sendM h) c j ∗ xRes c (X c) ∗ R) ⊢ iprop((stagedSlot X c h 0 j ∗ xRes c (X c) ∗ R -∗ WP c Q k) -∗ WP c Q (stageX (nr_ok 0) h j o k)) := by
  iintro ⟨Hs, Hx, HR⟩ Hk
  unfold stageX
  iapply (wp_loadX c (nr_ok 0) o Q (X c) _) $$ Hx
  iintro Hx
  iapply (wp_loadS_any (sendM h) c j (nr_ok 0) Q _) $$ Hs
  iintro Hs
  iapply (wp_storeS (sendM h) c j (nr_ok 0) Q (sendM_whole h) _ k) $$ Hs
  iintro Hs
  iapply Hk
  isplitl [Hs]
  · rw [packX_rows (nr_ok 0) o ho (X c)]
    unfold stagedSlot
    iexact Hs
  isplitl [Hx] <;> iassumption

theorem wp_stageO (c : Dev nD) (Q : PUnit → sProp 𝕄) (h : Half) (n : ℕ) (hn : n + 1 < 6) (P' : ℕ) (j : Fin 3) (hj : j ∈ stl (n + 1))
    (o : Off (nr (n + 1))) (ho : o.row = ![soR h (n + 1) j.val c.val, 0]) (R : sProp 𝕄) (k : Pr F) :
    iprop(slotAny (sendM h) c j ∗ R ∗ outH X h (n + 1) P' c)
      ⊢ iprop((stagedSlot X c h (n + 1) j ∗ R ∗ outH X h (n + 1) P' c -∗ WP c Q k) -∗ WP c Q (stageO (nr_ok (n + 1)) h j o k)) := by
  unfold outH
  iintro ⟨Hs, HR, ⟨%g, %hg, Hg⟩⟩ Hk
  unfold stageO
  iapply (wp_loadO c (nr_ok (n + 1)) o Q g _) $$ Hg
  iintro Hg
  iapply (wp_loadS_any (sendM h) c j (nr_ok (n + 1)) Q _) $$ Hs
  iintro Hs
  iapply (wp_storeS (sendM h) c j (nr_ok (n + 1)) Q (sendM_whole h) _ k) $$ Hs
  iintro Hs
  iapply Hk
  have e : (fun y => g ((rowR o).emb y)) = fun y => V X h (n + 1) c ((rowR o).emb y) := by
    funext y
    have h1 := inRows_emb o ho y
    have h2 := so_reg h ⟨n + 1, hn⟩ j c (Nat.succ_pos n) hj
    simp only at h2
    refine hg.1 _ ?_
    unfold inReg inRows at *
    omega
  have e' := (congrArg (packO (nr_ok (n + 1))) e).trans (packO_rows (nr_ok (n + 1)) o ho (V X h (n + 1) c))
  isplitl [Hs]
  · unfold stagedSlot
    iapply (Entails.of_eq (congrArg (slotHas (sendM h) c j (nr_ok (n + 1))) e'))
    iexact Hs
  isplitl [HR]; · iexact HR
  iexists g
  isplitr; · ipureintro; exact hg
  iexact Hg

/-- The staging loop of a phase. -/
theorem wp_stages (c : Dev nD) (Q : PUnit → sProp 𝕄) (h : Half) (P : Fin 6) (P' : ℕ) (p : Par) (hp : Good p c) (k : Pr F) :
    iprop(sepL (stl P.val) (fun j => slotAny (sendM h) c j) ∗ xRes c (X c) ∗ outH X h P.val P' c)
      ⊢ iprop((sepL (stl P.val) (stagedSlot X c h P.val) ∗ xRes c (X c) ∗ outH X h P.val P' c -∗ WP c Q k) -∗ WP c Q (stages p h P.val k)) := by
  have hso := hp.so h P
  obtain ⟨P, hP⟩ := P
  match P, hP, hso with
  | 0, hP, hso =>
    exact wp_each c Q (A := fun j => slotAny (sendM h) c j) (B := stagedSlot X c h 0) (C := fun _ => iprop(xRes c (X c) ∗ outH X h 0 P' c)) _ k (stl 0)
      fun j hj l' k' => wp_stageX X c Q h j (p.so h 0 j) (hso j hj) _ k'
  | n + 1, hP, hso =>
    exact wp_each c Q (A := fun j => slotAny (sendM h) c j) (B := stagedSlot X c h (n + 1)) (C := fun _ => iprop(xRes c (X c) ∗ outH X h (n + 1) P' c)) _ k (stl (n + 1))
      fun j hj l' k' => wp_stageO X c Q h n hP P' j hj (p.so h (n + 1) j) (hso j hj) _ k'

/-! ## Taking in what arrived -/

theorem V_step (h : Half) (P : ℕ) (hP : P < 3) (c : Dev nD) (i : S2048x1024.Idx) :
    V X h (P + 1) c i = (sl P).foldl (fun acc j => (FloatOps.addf (acc : F .f32) (ext (VB X h P (mate (ax h P) (bk (ax h P) j) c) i) : F .f32) : Elt F .f32)) (V X h P c i) := by
  show (sl P).foldl _ _ = _
  simp only [upd, if_pos hP]; rfl

theorem zero_sl : ∀ P : Fin 6, 0 ∈ sl P.val := by decide

/-- The new values of a half stored over the rows they belong to. -/
theorem wp_storeV (c : Dev nD) (Q : PUnit → sProp 𝕄) (h : Half) (P : Fin 3) (P' : Fin 7) (o : Off (nr P.val)) (ho : o.row = ![roR h P.val 0 c.val, 0])
    (g : S2048x1024.Idx → Elt F .f32) (hg : Inv X (oth h) P'.val c g) (v : Vec F (B2 (nr P.val)) .f32)
    (hv : ∀ y, v y = V X h (P.val + 1) c ((rowR o).emb y)) (k : Pr F) :
    oRes c g ⊢ iprop((outH X h (P.val + 1) P'.val c -∗ WP c Q k) -∗ WP c Q (storeO (nr_ok P.val) o v k)) := by
  iintro Hg Hk
  iapply (wp_storeO c (nr_ok P.val) o Q ho g (V X h (P.val + 1) c) v hv k) $$ Hg
  iintro Hg
  iapply Hk
  unfold outH
  iexists (fun i => if inRows (roR h P.val 0 c.val) (nr P.val) i then V X h (P.val + 1) c i else g i)
  isplitr
  · ipureintro
    have hr : roR h P.val 0 c.val = regS h (P.val + 1) c.val ∧ nr P.val = regN (P.val + 1) := ro_first h P 0 c
    refine ⟨fun i hi => ?_, Inv.other X hg (ro_base h ⟨P.val, by omega⟩ 0 c (zero_sl ⟨P.val, by omega⟩))⟩
    beta_reduce
    unfold inReg at hi
    rw [← hr.1, ← hr.2] at hi
    exact if_pos hi
  iexact Hg

variable {X} in
/-- Rows of a low phase's block are right before it. -/
theorem Inv.emb {h : Half} {P : Fin 3} {c : Dev nD} (hP : 0 < P.val) {g : S2048x1024.Idx → Elt F .f32} (hg : Inv X h P.val c g) {o : Off (nr P.val)}
    (ho : o.row = ![roR h P.val 0 c.val, 0]) (y) : g ((rowR o).emb y) = V X h P.val c ((rowR o).emb y) := by
  refine hg _ ?_
  have h1 := inRows_emb o ho y
  have h2 : regS h P.val c.val ≤ roR h P.val 0 c.val ∧ roR h P.val 0 c.val + nr P.val ≤ regS h P.val c.val + regN P.val := ro_reg h P 0 c hP
  unfold inReg inRows at *
  omega

/-- A slot's block widened, at the rows of the phase's block. -/
theorem open_got (h : Half) (P : Fin 3) (j : Fin 3) (c : Dev nD) (o : Off (nr P.val)) (ho : o.row = ![roR h P.val 0 c.val, 0]) (y : (B2 (nr P.val)).Idx) :
    openS (nr_ok P.val) (got X h P.val j c) y = ext (VB X h P.val (mate (ax h P.val) (bk (ax h P.val) j) c) ((rowR o).emb y)) := by
  unfold got
  rw [(ro_first h P j c).1, ← (ro_first h P 0 c).1]
  exact openS_rows (nr_ok P.val) o ho _ y

/-- One arrival written over its block, from phase 3 on. -/
theorem wp_put (c : Dev nD) (Q : PUnit → sProp 𝕄) (h : Half) (P : Fin 6) (hP : 3 ≤ P.val) (P' : Fin 7) (j : Fin 3) (hj : j ∈ sl P.val) (l : List (Fin 3))
    (o : Off (nr P.val)) (ho : o.row = ![roR h P.val j.val c.val, 0]) (k : Pr F) :
    iprop(recvPay X h P.val j c
        ∗ ∃ g, ⌜∃ d, Mid X h P c d g ∧ Inv X (oth h) P'.val c g ∧ ∀ i ∈ sl P.val, i ∈ d ∨ i ∈ j :: l⌝ ∗ oRes c g)
      ⊢ iprop((slotAny (recvM h) c j ∗ (∃ g, ⌜∃ d, Mid X h P c d g ∧ Inv X (oth h) P'.val c g ∧ ∀ i ∈ sl P.val, i ∈ d ∨ i ∈ l⌝ ∗ oRes c g) -∗ WP c Q k)
        -∗ WP c Q (put (nr_ok P.val) h j o k)) := by
  unfold recvPay
  iintro ⟨Hs, ⟨%g, %hg, Hg⟩⟩ Hk
  obtain ⟨d, hm, hi, hd⟩ := hg
  unfold put
  iapply (wp_loadS (recvM h) c j (nr_ok P.val) Q _ _) $$ Hs
  iintro Hs
  iapply (wp_loadO c (nr_ok P.val) o Q g _) $$ Hg
  iintro Hg
  iapply (wp_storeO c (nr_ok P.val) o Q ho g (fun i => ext (VB X h P.val (mate (ax h P.val) (bk (ax h P.val) j) c) i)) _
    (fun y => openS_rows (nr_ok P.val) o ho _ y) k) $$ Hg
  iintro Hg
  iapply Hk
  isplitl [Hs]; · iapply (slotHas_any (recvM h) c j (nr_ok P.val) _); iexact Hs
  iexists _
  isplitr
  · ipureintro
    refine ⟨j :: d, Mid.put X h P hP c hm j hj, Inv.other X hi (ro_base h P j c hj), fun i hi => ?_⟩
    rcases hd i hi with h | h
    · exact .inl (List.mem_cons_of_mem _ h)
    · rcases List.mem_cons.mp h with rfl | h
      · exact .inl List.mem_cons_self
      · exact .inr h
  iexact Hg

theorem wp_consume (c : Dev nD) (Q : PUnit → sProp 𝕄) (h : Half) (P : Fin 6) (P' : Fin 7) (p : Par) (hp : Good p c) (k : Pr F) :
    iprop(sepL (sl P.val) (fun j => recvPay X h P.val j c) ∗ xRes c (X c) ∗ outH X h P.val P'.val c)
      ⊢ iprop((sepL (sl P.val) (fun j => slotAny (recvM h) c j) ∗ xRes c (X c) ∗ outH X h (P.val + 1) P'.val c -∗ WP c Q k) -∗ WP c Q (consume p h P.val k)) := by
  have hro := hp.ro h P
  obtain ⟨P, hP⟩ := P
  match P, hP, hro with
  | 0, hP, hro =>
    have ho : (p.ro h 0 0).row = ![roR h 0 0 c.val, 0] := hro 0 (by show (0 : Fin 3) ∈ sl 0; decide)
    show iprop((recvPay X h 0 0 c ∗ recvPay X h 0 1 c ∗ recvPay X h 0 2 c ∗ emp) ∗ xRes c (X c) ∗ outH X h 0 P'.val c)
      ⊢ iprop(((slotAny (recvM h) c 0 ∗ slotAny (recvM h) c 1 ∗ slotAny (recvM h) c 2 ∗ emp) ∗ xRes c (X c) ∗ outH X h 1 P'.val c -∗ WP c Q k) -∗ WP c Q (consume p h 0 k))
    rw [show outH X h 0 P'.val c = iprop(∃ g, ⌜Inv X h 0 c g ∧ Inv X (oth h) P'.val c g⌝ ∗ oRes c g) from rfl]
    unfold recvPay
    iintro ⟨⟨H0, H1, H2, -⟩, Hx, ⟨%g, %hg, Hg⟩⟩ Hk
    unfold consume
    iapply (wp_loadX c (nr_ok 0) _ Q (X c) _) $$ Hx; iintro Hx
    iapply (wp_loadS (recvM h) c 0 (nr_ok 0) Q _ _) $$ H0; iintro H0
    iapply (wp_loadS (recvM h) c 1 (nr_ok 0) Q _ _) $$ H1; iintro H1
    iapply (wp_loadS (recvM h) c 2 (nr_ok 0) Q _ _) $$ H2; iintro H2
    iapply (wp_loadO c (nr_ok 0) _ Q g _) $$ Hg; iintro Hg
    iapply (wp_storeV X c Q h 0 P' _ ho g hg.2 _ (fun y => by
      refine Eq.trans ?_ (V_step X h 0 (by decide) c _).symm
      have h0 := open_got X h 0 0 c _ ho y
      have h1 := open_got X h 0 1 c _ ho y
      have h2 := open_got X h 0 2 c _ ho y
      exact congrArg₂ FloatOps.addf (congrArg₂ FloatOps.addf (congrArg₂ FloatOps.addf (congrArg ext (congrFun (shapeCast_self _ _) y)) h0) h1) h2) k) $$ Hg
    iintro Hg
    iapply Hk
    isplitl [H0 H1 H2]
    · isplitl [H0]; · iapply (slotHas_any (recvM h) c 0 (nr_ok 0) _); iexact H0
      isplitl [H1]; · iapply (slotHas_any (recvM h) c 1 (nr_ok 0) _); iexact H1
      isplitl [H2]; · iapply (slotHas_any (recvM h) c 2 (nr_ok 0) _); iexact H2
      iempintro
    isplitl [Hx]; · iexact Hx
    iexact Hg
  | 1, hP, hro =>
    have ho : (p.ro h 1 0).row = ![roR h 1 0 c.val, 0] := hro 0 (by show (0 : Fin 3) ∈ sl 1; decide)
    show iprop((recvPay X h 1 0 c ∗ recvPay X h 1 1 c ∗ recvPay X h 1 2 c ∗ emp) ∗ xRes c (X c) ∗ outH X h 1 P'.val c)
      ⊢ iprop(((slotAny (recvM h) c 0 ∗ slotAny (recvM h) c 1 ∗ slotAny (recvM h) c 2 ∗ emp) ∗ xRes c (X c) ∗ outH X h 2 P'.val c -∗ WP c Q k) -∗ WP c Q (consume p h 1 k))
    rw [show outH X h 1 P'.val c = iprop(∃ g, ⌜Inv X h 1 c g ∧ Inv X (oth h) P'.val c g⌝ ∗ oRes c g) from rfl]
    unfold recvPay
    iintro ⟨⟨H0, H1, H2, -⟩, Hx, ⟨%g, %hg, Hg⟩⟩ Hk
    unfold consume
    iapply (wp_loadO c (nr_ok 1) _ Q g _) $$ Hg; iintro Hg
    iapply (wp_loadS (recvM h) c 0 (nr_ok 1) Q _ _) $$ H0; iintro H0
    iapply (wp_loadS (recvM h) c 1 (nr_ok 1) Q _ _) $$ H1; iintro H1
    iapply (wp_loadS (recvM h) c 2 (nr_ok 1) Q _ _) $$ H2; iintro H2
    iapply (wp_loadO c (nr_ok 1) _ Q g _) $$ Hg; iintro Hg
    iapply (wp_storeV X c Q h 1 P' _ ho g hg.2 _ (fun y => by
      refine Eq.trans ?_ (V_step X h 1 (by decide) c _).symm
      have h0 := open_got X h 1 0 c _ ho y
      have h1 := open_got X h 1 1 c _ ho y
      have h2 := open_got X h 1 2 c _ ho y
      exact congrArg₂ FloatOps.addf (congrArg₂ FloatOps.addf (congrArg₂ FloatOps.addf ((congrFun (shapeCast_self _ _) y).trans (Inv.emb (P := 1) (by decide) hg.1 ho y)) h0) h1) h2) k) $$ Hg
    iintro Hg
    iapply Hk
    isplitl [H0 H1 H2]
    · isplitl [H0]; · iapply (slotHas_any (recvM h) c 0 (nr_ok 1) _); iexact H0
      isplitl [H1]; · iapply (slotHas_any (recvM h) c 1 (nr_ok 1) _); iexact H1
      isplitl [H2]; · iapply (slotHas_any (recvM h) c 2 (nr_ok 1) _); iexact H2
      iempintro
    isplitl [Hx]; · iexact Hx
    iexact Hg
  | 2, hP, hro =>
    have ho : (p.ro h 2 0).row = ![roR h 2 0 c.val, 0] := hro 0 (by show (0 : Fin 3) ∈ sl 2; decide)
    show iprop((recvPay X h 2 0 c ∗ emp) ∗ xRes c (X c) ∗ outH X h 2 P'.val c)
      ⊢ iprop(((slotAny (recvM h) c 0 ∗ emp) ∗ xRes c (X c) ∗ outH X h 3 P'.val c -∗ WP c Q k) -∗ WP c Q (consume p h 2 k))
    rw [show outH X h 2 P'.val c = iprop(∃ g, ⌜Inv X h 2 c g ∧ Inv X (oth h) P'.val c g⌝ ∗ oRes c g) from rfl]
    unfold recvPay
    iintro ⟨⟨H0, -⟩, Hx, ⟨%g, %hg, Hg⟩⟩ Hk
    unfold consume
    iapply (wp_loadO c (nr_ok 2) _ Q g _) $$ Hg; iintro Hg
    iapply (wp_loadS (recvM h) c 0 (nr_ok 2) Q _ _) $$ H0; iintro H0
    iapply (wp_loadO c (nr_ok 2) _ Q g _) $$ Hg; iintro Hg
    iapply (wp_storeV X c Q h 2 P' _ ho g hg.2 _ (fun y => by
      refine Eq.trans ?_ (V_step X h 2 (by decide) c _).symm
      have h0 := open_got X h 2 0 c _ ho y
      exact congrArg₂ FloatOps.addf ((congrFun (shapeCast_self _ _) y).trans (Inv.emb (P := 2) (by decide) hg.1 ho y)) h0) k) $$ Hg
    iintro Hg
    iapply Hk
    isplitl [H0]
    · isplitl [H0]; · iapply (slotHas_any (recvM h) c 0 (nr_ok 2) _); iexact H0
      iempintro
    isplitl [Hx]; · iexact Hx
    iexact Hg
  | n + 3, hP, hro =>
    iintro ⟨Hs, Hx, Hg⟩ Hk
    unfold outH
    icases Hg with ⟨%g, %hg, Hg⟩
    iapply (wp_each c Q (A := fun j => recvPay X h (n + 3) j c) (B := fun j => slotAny (recvM h) c j)
      (C := fun l => iprop(∃ g, ⌜∃ d, Mid X h ⟨n + 3, hP⟩ c d g ∧ Inv X (oth h) P'.val c g ∧ ∀ i ∈ sl (n + 3), i ∈ d ∨ i ∈ l⌝ ∗ oRes c g))
      (fun j => put (nr_ok (n + 3)) h j (p.ro h (n + 3) j)) k (sl (n + 3))
      fun j hj l' k' => wp_put X c Q h ⟨n + 3, hP⟩ (by simp) P' j hj l' (p.ro h (n + 3) j) (hro j hj) k') $$ [Hs Hg]
    · isplitl [Hs]; · iexact Hs
      iexists g
      isplitr
      · ipureintro; exact ⟨[], Mid.of_inv X h ⟨n + 3, hP⟩ (by simp) c hg.1, hg.2, fun i hi => .inr hi⟩
      iexact Hg
    iintro ⟨Hs, ⟨%g', %hg', Hg⟩⟩
    iapply Hk
    isplitl [Hs]; · iexact Hs
    isplitl [Hx]; · iexact Hx
    iexists g'
    isplitr
    · ipureintro
      obtain ⟨d, hm, hi, hd⟩ := hg'
      exact ⟨Mid.inv X h ⟨n + 3, hP⟩ (by simp) c hm fun j hj => (hd j hj).resolve_right List.not_mem_nil, hi⟩
    iexact Hg

end Cert.KernelIdeal.Own

end
-- ==== Proof.Ideal.Phase.lean ====
/-
The loops of a phase.
-/
module

public import proofs.«01_k».proof.Proof.Ideal.Local

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S2048x1024.Idx → Elt F .bf16)

/-! ## Slots in use and slots not in use -/

/-- The slots phase `P` does not use, and those it does not stage. -/
def co : ℕ → List (Fin 3) | 2 => [1, 2] | 3 => [1, 2] | 6 => [0, 1, 2] | _ => []
def cst : ℕ → List (Fin 3) | 0 => [] | 1 => [] | _ => [1, 2]

theorem sl_co : ∀ P : Fin 7, [0, 1, 2] = sl P.val ++ co P.val := by decide
theorem stl_cst : ∀ P : Fin 6, [0, 1, 2] = stl P.val ++ cst P.val := by decide
theorem rd_co : ∀ (P : Fin 6) (j : Fin 3), j ∈ co P.val → rd j P.val = rd j (P.val + 1) := by decide
theorem bk_perm : ∀ (h : Half) (P : Fin 7), (sl P.val).Perm ((sl P.val).map (bk (ax h P.val))) := by decide

theorem sepL_unappend {α : Type} (Φ : α → sProp 𝕄) : ∀ l l' : List α, iprop(sepL l Φ ∗ sepL l' Φ) ⊢ sepL (l ++ l') Φ
  | [], l' => by
    show iprop(emp ∗ sepL l' Φ) ⊢ sepL l' Φ
    iintro ⟨-, H⟩; iexact H
  | a :: l, l' => by
    show iprop((Φ a ∗ sepL l Φ) ∗ sepL l' Φ) ⊢ iprop(Φ a ∗ sepL (l ++ l') Φ)
    iintro ⟨⟨Ha, Hl⟩, Hl'⟩
    isplitl [Ha]; · iexact Ha
    iapply (sepL_unappend Φ l l')
    isplitl [Hl] <;> iassumption

theorem sepL_perm {α : Type} (Φ : α → sProp 𝕄) {l l' : List α} (h : l.Perm l') : sepL l Φ ⊢ sepL l' Φ := by
  induction h with
  | nil => exact BI.Entails.refl _
  | cons a _ ih => exact BI.sep_mono (BI.Entails.refl _) ih
  | swap a b l =>
    show iprop(Φ b ∗ Φ a ∗ sepL l Φ) ⊢ iprop(Φ a ∗ Φ b ∗ sepL l Φ)
    iintro ⟨Hb, Ha, H⟩
    isplitl [Ha]; · iexact Ha
    isplitl [Hb] <;> iassumption
  | trans _ _ h1 h2 => exact h1.trans h2

theorem sepL_bk (Φ : Fin 3 → sProp 𝕄) (h : Half) (P : Fin 6) : sepL (sl P.val) Φ ⊢ sepL (sl P.val) fun j => Φ (bk (ax h P.val) j) := by
  rw [← sepL_map (bk (ax h P.val)) Φ (sl P.val)]
  exact sepL_perm Φ (bk_perm h P.castSucc)

theorem sepL_use (Φ : Fin 3 → sProp 𝕄) (P : Fin 7) : sepL [0, 1, 2] Φ ⊢ iprop(sepL (sl P.val) Φ ∗ sepL (co P.val) Φ) := by
  rw [sl_co P]; exact sepL_append Φ _ _
theorem sepL_unuse (Φ : Fin 3 → sProp 𝕄) (P : Fin 7) : iprop(sepL (sl P.val) Φ ∗ sepL (co P.val) Φ) ⊢ sepL [0, 1, 2] Φ := by
  rw [sl_co P]; exact sepL_unappend Φ _ _

/-! ## The send buffer around a phase -/

def sendAll (c : Dev nD) (h : Half) : sProp 𝕄 := sepL [0, 1, 2] fun j => slotAny (sendM h) c j

/-- Given the sources back, the whole send buffer. -/
def unsend (c : Dev nD) (h : Half) (P : ℕ) : sProp 𝕄 := iprop(sepL (sl P) (fun j => sendPay h P j c) -∗ sendAll c h)

theorem send_one (M : Memref sig .tc .vmem S3x256x1024 .bf16) (c : Dev nD) (j : Fin 3) {n : ℕ} (hn : Ok n) (v : (B3 n).Idx → Elt F .bf16) :
    slotHas M c j hn v ⊢ (iprop(partHas M c j hn fullShare v ∗ (partAny M c j hn fullShare -∗ slotAny M c j)) : sProp 𝕄) := by
  iintro H
  ihave H := slot_split M c j hn v $$ H
  icases H with ⟨H, Hr⟩
  isplitl [H]; · iexact H
  iintro H
  iapply (slot_join M c j hn)
  isplitl [H] <;> iassumption

theorem send_three (M : Memref sig .tc .vmem S3x256x1024 .bf16) (c : Dev nD) (j : Fin 3) {n : ℕ} (hn : Ok n) (v : (B3 n).Idx → Elt F .bf16) :
    slotHas M c j hn v ⊢ (iprop(partHas M c j hn fullShare.left v ∗ partHas M c j hn fullShare.right.left v ∗ partHas M c j hn fullShare.right.right v
      ∗ (partAny M c j hn fullShare.left ∗ partAny M c j hn fullShare.right.left ∗ partAny M c j hn fullShare.right.right -∗ slotAny M c j)) : sProp 𝕄) := by
  iintro H
  ihave H := send_one M c j hn v $$ H
  icases H with ⟨H, Hr⟩
  ihave H := part_share M c j hn (PosShare.mem_left_op_right fullShare) v $$ H
  icases H with ⟨H0, H⟩
  ihave H := part_share M c j hn (PosShare.mem_left_op_right fullShare.right) v $$ H
  icases H with ⟨H1, H2⟩
  isplitl [H0]; · iexact H0
  isplitl [H1]; · iexact H1
  isplitl [H2]; · iexact H2
  iintro ⟨H0, H1, H2⟩
  iapply Hr
  iapply (part_unshare M c j hn (PosShare.mem_left_op_right fullShare))
  isplitl [H0]; · iexact H0
  iapply (part_unshare M c j hn (PosShare.mem_left_op_right fullShare.right))
  isplitl [H1] <;> iassumption

/-- A staged slot is the source of its own copy, in phases 0 to 3. -/
theorem src_one (c : Dev nD) (h : Half) (P : Fin 6) (hP : P.val < 4) (j : Fin 3) :
    stagedSlot X c h P.val j ⊢ iprop(srcPart X c h P.val j ∗ (sendPay h P.val j c -∗ slotAny (sendM h) c j)) := by
  have e1 : srcOf P.val j = j := by revert P j; decide
  have e2 : shr P.val j = fullShare := by
    obtain ⟨P, h6⟩ := P
    obtain rfl | rfl | rfl | rfl : P = 0 ∨ P = 1 ∨ P = 2 ∨ P = 3 := by simp only at hP; omega
    all_goals rfl
  unfold stagedSlot srcPart sendPay
  rw [e1, e2]
  exact send_one _ _ _ _ _

/-- In phases 4 and 5 the one staged slot is the source of all three copies. -/
theorem src_three (c : Dev nD) (h : Half) (P : Fin 6) (hP : 4 ≤ P.val) :
    stagedSlot X c h P.val 0 ⊢ iprop((srcPart X c h P.val 0 ∗ srcPart X c h P.val 1 ∗ srcPart X c h P.val 2)
      ∗ (sendPay h P.val 0 c ∗ sendPay h P.val 1 c ∗ sendPay h P.val 2 c -∗ slotAny (sendM h) c 0)) := by
  obtain ⟨P, h6⟩ := P
  obtain rfl | rfl : P = 4 ∨ P = 5 := by simp only at hP; omega
  all_goals
    unfold stagedSlot srcPart sendPay
    iintro H
    ihave H := send_three (sendM h) c 0 _ _ $$ H
    icases H with ⟨H0, H1, H2, Hr⟩
    isplitr [Hr]
    · isplitl [H0]; · iexact H0
      isplitl [H1]; · iexact H1
      iexact H2
    iexact Hr

theorem prep_send (c : Dev nD) (h : Half) (P : Fin 6) :
    iprop(sepL (stl P.val) (stagedSlot X c h P.val) ∗ sepL (cst P.val) (fun j => slotAny (sendM h) c j))
      ⊢ iprop(sepL (sl P.val) (srcPart X c h P.val) ∗ unsend c h P.val) := by
  have one := src_one X c h P
  have three := src_three X c h P
  obtain ⟨P, h6⟩ := P
  unfold unsend sendAll
  obtain rfl | rfl | rfl | rfl | rfl | rfl : P = 0 ∨ P = 1 ∨ P = 2 ∨ P = 3 ∨ P = 4 ∨ P = 5 := by omega
  iterate 2
    · simp only [sl, stl, cst, sepL]
      iintro ⟨⟨H0, H1, H2, -⟩, -⟩
      ihave H0 := one (by simp) 0 $$ H0
      ihave H1 := one (by simp) 1 $$ H1
      ihave H2 := one (by simp) 2 $$ H2
      icases H0 with ⟨H0, R0⟩
      icases H1 with ⟨H1, R1⟩
      icases H2 with ⟨H2, R2⟩
      isplitl [H0 H1 H2]
      · isplitl [H0]; · iexact H0
        isplitl [H1]; · iexact H1
        isplitl [H2]; · iexact H2
        iempintro
      iintro ⟨H0, H1, H2, -⟩
      isplitl [H0 R0]; · iapply R0; iexact H0
      isplitl [H1 R1]; · iapply R1; iexact H1
      isplitl [H2 R2]; · iapply R2; iexact H2
      iempintro
  iterate 2
    · simp only [sl, stl, cst, sepL]
      iintro ⟨⟨H0, -⟩, ⟨H1, H2, -⟩⟩
      ihave H0 := one (by simp) 0 $$ H0
      icases H0 with ⟨H0, R0⟩
      isplitl [H0]
      · isplitl [H0]; · iexact H0
        iempintro
      iintro ⟨H0, -⟩
      isplitl [H0 R0]; · iapply R0; iexact H0
      isplitl [H1]; · iexact H1
      isplitl [H2]; · iexact H2
      iempintro
  iterate 2
    · simp only [sl, stl, cst, sepL]
      iintro ⟨⟨H0, -⟩, ⟨H1, H2, -⟩⟩
      ihave H0 := three (by simp) $$ H0
      icases H0 with ⟨⟨S0, S1, S2⟩, R0⟩
      isplitl [S0 S1 S2]
      · isplitl [S0]; · iexact S0
        isplitl [S1]; · iexact S1
        isplitl [S2]; · iexact S2
        iempintro
      iintro ⟨S0, S1, S2, -⟩
      isplitl [S0 S1 S2 R0]
      · iapply R0
        isplitl [S0]; · iexact S0
        isplitl [S1] <;> iassumption
      isplitl [H1]; · iexact H1
      isplitl [H2]; · iexact H2
      iempintro

/-! ## The loops that talk -/

theorem copiesL_eq (h : Half) (P : Fin 6) : copiesL h P.val = (sl P.val).map (.copy h P) := dif_pos P.isLt
theorem grantsL_eq (h : Half) (P : Fin 6) : grantsL h P.val = (sl P.val).map (.grant h P) := dif_pos P.isLt

theorem posJ_reached (c : Dev nD) (h : Half) (P : ℕ) (j : Fin 3) :
    posJ c h P j ⊢ (iprop((reached ER (cell c (.rs h j)) (rd j P) ∗ reached ER (cell c (.ss h j)) (rd j P)) ∗ posJ c h P j) : sProp 𝕄) := by
  unfold posJ
  iintro ⟨H1, #H2, H3, #H4⟩
  isplitr
  · isplitr
    · iexact H2
    iexact H4
  isplitl [H1]; · iexact H1
  isplitr; · iexact H2
  isplitl [H3]; · iexact H3
  iexact H4

theorem wp_starts (K : Dev nD × CK → ℕ) (c : Dev nD) (Q : PUnit → sProp 𝕄) (h : Half) (P : Fin 6) (l : List Pay) (p : Par) (hp : Good p c) (k : Pr F) :
    iprop(Recs X K ∗ sepL (sl P.val) (srcPart X c h P.val) ∗ sepL (sl P.val) (fun j => grantPay h P.val j c) ∗ sepL (copiesL h P.val) (tok c)
        ∗ sepL (sl P.val) (posJ c h P.val) ∗ owesL (copiesL h P.val ++ l) c)
      ⊢ iprop((sepL (sl P.val) (fun j => iprop(ssCred c h P.val j ∗ posJ c h P.val j)) ∗ owesL l c -∗ WP c Q k) -∗ WP c Q (starts p h P.val k)) := by
  rw [copiesL_eq, sepL_map]
  iintro ⟨#HR, Hsrc, Hg, Ht, Hp, HO⟩ Hk
  unfold starts
  iapply (wp_each c Q (A := fun j => iprop(srcPart X c h P.val j ∗ grantPay h P.val j c ∗ tok c (.copy h P j) ∗ posJ c h P.val j))
      (B := fun j => iprop(ssCred c h P.val j ∗ posJ c h P.val j)) (C := fun l' => iprop(Recs X K ∗ owesL (l'.map (.copy h P) ++ l) c))
      (fun j => start (nr_ok P.val) h (srcOf P.val j) j (p.tgt h P.val j)) k (sl P.val) ?_) $$ [Hsrc Hg Ht Hp HO]
  · intro j hj l' k'
    iintro ⟨⟨Hsrc, Hg, Ht, Hp⟩, ⟨#HR, HO⟩⟩ Hk
    ihave Hp := posJ_reached c h P.val j $$ Hp
    icases Hp with ⟨⟨-, Hr⟩, Hp⟩
    iapply (wp_start X K c Q h P j hj (l'.map (.copy h P) ++ l) (p.tgt h P.val j) (hp.tgt h P j hj) k') $$ [Hsrc Hg Ht Hr HO]
    · isplitr; · iexact HR
      isplitl [Ht]; · iexact Ht
      isplitl [Hsrc]; · iexact Hsrc
      isplitl [Hg]; · iexact Hg
      isplitl [Hr]; · iexact Hr
      iexact HO
    iintro ⟨Hc, HO⟩
    iapply Hk
    isplitl [Hc Hp]
    · isplitl [Hc] <;> iassumption
    isplitr; · iexact HR
    iexact HO
  · isplitr [HO]
    · iapply (sepL_sep (srcPart X c h P.val) (fun j => iprop(grantPay h P.val j c ∗ tok c (.copy h P j) ∗ posJ c h P.val j)) (sl P.val))
      isplitl [Hsrc]; · iexact Hsrc
      iapply (sepL_sep (fun j => grantPay h P.val j c) (fun j => iprop(tok c (.copy h P j) ∗ posJ c h P.val j)) (sl P.val))
      isplitl [Hg]; · iexact Hg
      iapply (sepL_sep (fun j => tok c (.copy h P j)) (posJ c h P.val) (sl P.val))
      isplitl [Ht] <;> iassumption
    isplitr; · iexact HR
    iexact HO
  iintro ⟨H, ⟨-, HO⟩⟩
  iapply Hk
  isplitl [H]; · iexact H
  iexact HO

theorem wp_finishes (K : Dev nD × CK → ℕ) (c : Dev nD) (Q : PUnit → sProp 𝕄) (h : Half) (P : Fin 6) (l : List Pay) (hl : Above (2 * P.val + 2) l) (k : Pr F) :
    iprop(Recs X K ∗ sepL (sl P.val) (fun j => iprop(ssCred c h P.val j ∗ posJ c h P.val j)) ∗ sepL (sl P.val) (rsCred c h P.val) ∗ owesL l c)
      ⊢ iprop((sepL (sl P.val) (posJ c h (P.val + 1)) ∗ sepL (sl P.val) (fun j => sendPay h P.val j c) ∗ sepL (sl P.val) (fun j => recvPay X h P.val j c) ∗ owesL l c
        -∗ WP c Q k) -∗ WP c Q (finishes h P.val k)) := by
  iintro ⟨#HR, Hs, Hr, HO⟩ Hk
  unfold finishes
  iapply (wp_each c Q (A := fun j => iprop((ssCred c h P.val j ∗ posJ c h P.val j) ∗ rsCred c h P.val j))
      (B := fun j => iprop(posJ c h (P.val + 1) j ∗ sendPay h P.val j c ∗ recvPay X h P.val j c)) (C := fun _ => iprop(Recs X K ∗ owesL l c))
      (fun j => finish (nr_ok P.val) h (srcOf P.val j) j) k (sl P.val) ?_) $$ [Hs Hr HO]
  · intro j hj l' k'
    iintro ⟨⟨⟨Hs, Hp⟩, Hr⟩, ⟨#HR, HO⟩⟩ Hk
    iapply (wp_finish X K c Q h P j hj l hl k') $$ [Hs Hp Hr HO]
    · isplitr; · iexact HR
      isplitl [Hp]; · iexact Hp
      isplitl [Hs]; · iexact Hs
      isplitl [Hr]; · iexact Hr
      iexact HO
    iintro ⟨Hp, Hs, Hr, HO⟩
    iapply Hk
    isplitl [Hp Hs Hr]
    · isplitl [Hp]; · iexact Hp
      isplitl [Hs] <;> iassumption
    isplitr; · iexact HR
    iexact HO
  · isplitr [HO]
    · iapply (sepL_sep (fun j => iprop(ssCred c h P.val j ∗ posJ c h P.val j)) (rsCred c h P.val) (sl P.val))
      isplitl [Hs] <;> iassumption
    isplitr; · iexact HR
    iexact HO
  iintro ⟨H, ⟨-, HO⟩⟩
  ihave H := sepL_unsep (posJ c h (P.val + 1)) (fun j => iprop(sendPay h P.val j c ∗ recvPay X h P.val j c)) (sl P.val) $$ H
  icases H with ⟨Hp, H⟩
  ihave H := sepL_unsep (fun j => sendPay h P.val j c) (fun j => recvPay X h P.val j c) (sl P.val) $$ H
  icases H with ⟨Hs, Hr⟩
  iapply Hk
  isplitl [Hp]; · iexact Hp
  isplitl [Hs]; · iexact Hs
  isplitl [Hr]; · iexact Hr
  iexact HO

/-- The grants before a phase: each slot to be written goes to its writer. -/
theorem wp_grants (K : Dev nD × CK → ℕ) (c : Dev nD) (Q : PUnit → sProp 𝕄) (h : Half) (P : Fin 7) (hP : 0 < P.val) (l : List Pay) (p : Par) (hp : Good p c) (k : Pr F) :
    iprop(Recs X K ∗ sepL (grantsL h P.val) (tok c) ∗ sepL (sl P.val) (fun j => slotAny (recvM h) c j) ∗ sepL (sl P.val) (posJ c h P.val)
        ∗ owesL (grantsL h P.val ++ l) c)
      ⊢ iprop((sepL (sl P.val) (posJ c h P.val) ∗ owesL l c -∗ WP c Q k) -∗ WP c Q (grants p h P.val k)) := by
  by_cases h6 : P.val = 6
  · rw [h6]
    iintro ⟨-, -, -, Hp, HO⟩ Hk
    iapply Hk
    isplitl [Hp]; · iexact Hp
    iexact HO
  obtain ⟨P, rfl⟩ : ∃ R : Fin 6, P = R.castSucc := ⟨⟨P.val, by omega⟩, rfl⟩
  show iprop(Recs X K ∗ sepL (grantsL h P.val) (tok c) ∗ sepL (sl P.val) (fun j => slotAny (recvM h) c j) ∗ sepL (sl P.val) (posJ c h P.val)
        ∗ owesL (grantsL h P.val ++ l) c)
      ⊢ iprop((sepL (sl P.val) (posJ c h P.val) ∗ owesL l c -∗ WP c Q k) -∗ WP c Q (grants p h P.val k))
  rw [grantsL_eq, sepL_map]
  iintro ⟨#HR, Ht, Hs, Hp, HO⟩ Hk
  ihave Hp := sepL_mono (sl P.val) (fun j _ => posJ_reached c h P.val j) $$ Hp
  ihave Hp := sepL_unsep (fun j => iprop(reached ER (cell c (.rs h j)) (rd j P.val) ∗ reached ER (cell c (.ss h j)) (rd j P.val))) (posJ c h P.val) (sl P.val) $$ Hp
  icases Hp with ⟨Hr, Hp⟩
  ihave Hr := sepL_unsep (fun j => reached ER (cell c (.rs h j)) (rd j P.val)) (fun j => reached ER (cell c (.ss h j)) (rd j P.val)) (sl P.val) $$ Hr
  icases Hr with ⟨Hr, -⟩
  ihave Hs := sepL_bk (fun j => slotAny (recvM h) c j) h P $$ Hs
  ihave Hr := sepL_bk (fun j => reached ER (cell c (.rs h j)) (rd j P.val)) h P $$ Hr
  unfold grants
  iapply (wp_each c Q (A := fun j => iprop(tok c (.grant h P j) ∗ slotAny (recvM h) c (bk (ax h P.val) j)
        ∗ reached ER (cell c (.rs h (bk (ax h P.val) j))) (rd (bk (ax h P.val) j) P.val)))
      (B := fun j => iprop(emp)) (C := fun l' => iprop(Recs X K ∗ owesL (l'.map (.grant h P) ++ l) c))
      (fun j => grant (semC (crA h) (crI P.val)) (p.gr h P.val j)) k (sl P.val) ?_) $$ [Ht Hs Hr HO]
  · intro j hj l' k'
    iintro ⟨⟨Ht, Hs, Hr⟩, ⟨#HR, HO⟩⟩ Hk
    have hsem : semC (crA h) (crI P.val) = gsem h P := by
      unfold gsem
      rw [if_neg (fun e => by rw [e] at hP; exact Nat.lt_irrefl 0 hP), show crI P.val = P by clear hj hP h6; revert P; decide]
    iapply (wp_grant X K c Q h P j hj (l'.map (.grant h P) ++ l) _ hsem (p.gr h P.val j) (hp.gr h P j hP hj) k') $$ [Ht Hs Hr HO]
    · isplitr; · iexact HR
      isplitl [Ht]; · iexact Ht
      isplitl [Hs]; · iexact Hs
      isplitl [Hr]; · iexact Hr
      iexact HO
    iintro HO
    iapply Hk
    isplitr; · iempintro
    isplitr; · iexact HR
    iexact HO
  · isplitr [HO]
    · iapply (sepL_sep (fun j => tok c (.grant h P j)) (fun j => iprop(slotAny (recvM h) c (bk (ax h P.val) j)
        ∗ reached ER (cell c (.rs h (bk (ax h P.val) j))) (rd (bk (ax h P.val) j) P.val))) (sl P.val))
      isplitl [Ht]; · iexact Ht
      iapply (sepL_sep (fun j => slotAny (recvM h) c (bk (ax h P.val) j))
        (fun j => reached ER (cell c (.rs h (bk (ax h P.val) j))) (rd (bk (ax h P.val) j) P.val)) (sl P.val))
      isplitl [Hs] <;> iassumption
    isplitr; · iexact HR
    iexact HO
  iintro ⟨-, ⟨-, HO⟩⟩
  iapply Hk
  isplitl [Hp]; · iexact Hp
  iexact HO

/-! ## What a phase waits for before it copies -/

/-- What opens phase `P`: at the first the slots granted at the barrier, later the credit for the grants. -/
def gate (c : Dev nD) (h : Half) (P : Fin 6) : sProp 𝕄 :=
  if P = 0 then iprop(sepL (sl 0) (fun j => grantPay h 0 j c) ∗ atPos ER (cell c (.cr h P)) 0 ∅ 0)
  else iprop(cred (tallyAt (cell c (.cr h P)) (2 * P.val + 1) (sl P.val).length) ∗ atPos ER (cell c (.cr h P)) 0 ∅ 0)

def endCr (c : Dev nD) (h : Half) (P : Fin 6) : sProp 𝕄 := atPos ER (cell c (.cr h P)) (lastR (.cr h P)) ∅ 0

theorem wp_gate (K : Dev nD × CK → ℕ) (c : Dev nD) (Q : PUnit → sProp 𝕄) (h : Half) (P : Fin 6) (l : List Pay) (hl : Above (2 * P.val + 1) l) (k : Pr F) :
    iprop(Recs X K ∗ gate c h P ∗ owesL l c)
      ⊢ iprop((owesL l c ∗ endCr c h P ∗ sepL (sl P.val) (fun j => grantPay h P.val j c) -∗ WP c Q k) -∗ WP c Q (awaitGrant h P.val k)) := by
  by_cases hP : P = 0
  · subst hP
    unfold gate endCr
    rw [if_pos rfl, show lastR (.cr h 0) = 0 from rfl]
    iintro ⟨-, ⟨Hg, Ha⟩, HO⟩ Hk
    iapply Hk
    isplitl [HO]; · iexact HO
    isplitl [Ha]; · iexact Ha
    iexact Hg
  · unfold gate endCr
    rw [if_neg hP, show lastR (.cr h P) = 1 from if_neg hP]
    iintro ⟨#HR, ⟨Hc, Ha⟩, HO⟩ Hk
    have e : awaitGrant h P.val k = await (semC (crA h) P) (crW P.val) k := by
      obtain ⟨P, h6⟩ := P
      obtain ⟨n, rfl⟩ : ∃ n, P = n + 1 := Nat.exists_eq_succ_of_ne_zero fun e => hP (Fin.ext e)
      show await (semC (crA h) (crI (n + 1))) (crW (n + 1)) k = _
      rw [show crI (n + 1) = ⟨n + 1, h6⟩ from (by decide : ∀ P : Fin 6, crI P.val = P) ⟨n + 1, h6⟩]
    rw [e]
    iapply (wp_await X K c Q h P hP l hl k) $$ [Hc Ha HO]
    · isplitr; · iexact HR
      isplitl [Hc]; · iexact Hc
      isplitl [Ha] <;> iassumption
    iexact Hk

end Cert.KernelIdeal.Own

end
-- ==== Proof.Ideal.Body.lean ====
/-
A phase from end to end, and the whole body.
-/
module

public import proofs.«01_k».proof.Proof.Ideal.Phase

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S2048x1024.Idx → Elt F .bf16)

/-! ## A phase from end to end -/

/-- Half `h`'s buffers before phase `P`: its send slots, where its slots' cells stand, and the receive slots that phase `P` leaves alone. -/
def halfSt (c : Dev nD) (h : Half) (P : ℕ) : sProp 𝕄 :=
  iprop(sendAll c h ∗ sepL [0, 1, 2] (posJ c h P) ∗ sepL (co P) (fun j => slotAny (recvM h) c j))

/-- What phase `P` uses up for a half. -/
def halfRem (c : Dev nD) (h : Half) (P : Fin 6) : sProp 𝕄 :=
  iprop(gate c h P ∗ sepL (copiesL h P.val) (tok c) ∗ sepL (grantsL h (P.val + 1)) (tok c) ∗ sepL (sl P.val) (rsCred c h P.val))

/-- A device before phase `P`. -/
def St (c : Dev nD) (P : ℕ) : sProp 𝕄 :=
  iprop(xRes c (X c) ∗ outH X .a P P c ∗ halfSt c .a P ∗ halfSt c .b P ∗ owesL (toPay (6 - P)) c)

theorem Above.right {n : ℕ} {l l' : List Pay} (h : Above n (l ++ l')) : Above n l' := fun u hu => h u (List.mem_append_right _ hu)

theorem toPay_step : ∀ P : Fin 6, toPay (6 - P.val)
    = copiesL .a P.val ++ (copiesL .b P.val ++ (grantsL .a (P.val + 1) ++ (grantsL .b (P.val + 1) ++ toPay (6 - (P.val + 1))))) := by decide
theorem above_gate : ∀ P : Fin 6, Above (2 * P.val + 1) (toPay (6 - P.val)) := by decide
theorem above_copy : ∀ P : Fin 6, Above (2 * P.val + 2) (grantsL .a (P.val + 1) ++ (grantsL .b (P.val + 1) ++ toPay (6 - (P.val + 1)))) := by decide

theorem pos_co (c : Dev nD) (h : Half) (P : Fin 6) :
    iprop(sepL (sl P.val) (posJ c h (P.val + 1)) ∗ sepL (co P.val) (posJ c h P.val)) ⊢ (sepL [0, 1, 2] (posJ c h (P.val + 1)) : sProp 𝕄) := by
  rw [sepL_congr (Φ := posJ c h P.val) (Ψ := posJ c h (P.val + 1)) (co P.val) fun j hj => by unfold posJ; rw [rd_co P j hj]]
  exact sepL_unuse (posJ c h (P.val + 1)) P.castSucc

/-- The end of a phase for a half: its receive slots are all its own, and those of the next phase are granted away. -/
theorem wp_regrant (K : Dev nD × CK → ℕ) (c : Dev nD) (Q : PUnit → sProp 𝕄) (h : Half) (P : Fin 6) (l : List Pay) (p : Par) (hp : Good p c) (k : Pr F) :
    iprop(Recs X K ∗ sepL (grantsL h (P.val + 1)) (tok c) ∗ sepL (sl P.val) (fun j => slotAny (recvM h) c j) ∗ sepL (co P.val) (fun j => slotAny (recvM h) c j)
        ∗ sepL (sl P.val) (posJ c h (P.val + 1)) ∗ sepL (co P.val) (posJ c h P.val) ∗ owesL (grantsL h (P.val + 1) ++ l) c)
      ⊢ iprop((sepL [0, 1, 2] (posJ c h (P.val + 1)) ∗ sepL (co (P.val + 1)) (fun j => slotAny (recvM h) c j) ∗ owesL l c -∗ WP c Q k)
        -∗ WP c Q (grants p h (P.val + 1) k)) := by
  iintro ⟨#HR, Ht, Hs, Hs', Hp, Hp', HO⟩ Hk
  ihave Hs := sepL_unuse (fun j => slotAny (recvM h) c j) P.castSucc $$ [Hs Hs']
  · isplitl [Hs]; · iexact Hs
    iexact Hs'
  ihave Hs := sepL_use (fun j => slotAny (recvM h) c j) P.succ $$ Hs
  icases Hs with ⟨Hs, Hs'⟩
  ihave Hp := pos_co c h P $$ [Hp Hp']
  · isplitl [Hp]; · iexact Hp
    iexact Hp'
  ihave Hp := sepL_use (posJ c h (P.val + 1)) P.succ $$ Hp
  icases Hp with ⟨Hp, Hp'⟩
  iapply (wp_grants X K c Q h P.succ (Nat.succ_pos _) l p hp k) $$ [Ht Hs Hp HO]
  · isplitr; · iexact HR
    isplitl [Ht]; · iexact Ht
    isplitl [Hs]; · iexact Hs
    isplitl [Hp]; · iexact Hp
    iexact HO
  iintro ⟨Hp, HO⟩
  iapply Hk
  isplitl [Hp Hp']
  · iapply (sepL_unuse (posJ c h (P.val + 1)) P.succ)
    isplitl [Hp]; · iexact Hp
    iexact Hp'
  isplitl [Hs']; · iexact Hs'
  iexact HO

/-- Staging for a half: the sources of its copies, and how the send buffer comes back. -/
theorem wp_stage (c : Dev nD) (Q : PUnit → sProp 𝕄) (h : Half) (P : Fin 6) (P' : ℕ) (p : Par) (hp : Good p c) (k : Pr F) :
    iprop(sendAll c h ∗ xRes c (X c) ∗ outH X h P.val P' c)
      ⊢ iprop((sepL (sl P.val) (srcPart X c h P.val) ∗ unsend c h P.val ∗ xRes c (X c) ∗ outH X h P.val P' c -∗ WP c Q k) -∗ WP c Q (stages p h P.val k)) := by
  unfold sendAll
  rw [stl_cst P]
  iintro ⟨Hs, Hx, Hg⟩ Hk
  ihave Hs := sepL_append (fun j => slotAny (sendM h) c j) (stl P.val) (cst P.val) $$ Hs
  icases Hs with ⟨Hs, Hs'⟩
  iapply (wp_stages X c Q h P P' p hp k) $$ [Hs Hx Hg]
  · isplitl [Hs]; · iexact Hs
    isplitl [Hx]; · iexact Hx
    iexact Hg
  iintro ⟨Hs, Hx, Hg⟩
  ihave Hs := prep_send X c h P $$ [Hs Hs']
  · isplitl [Hs]; · iexact Hs
    iexact Hs'
  icases Hs with ⟨Hs, Hu⟩
  iapply Hk
  isplitl [Hs]; · iexact Hs
  isplitl [Hu]; · iexact Hu
  isplitl [Hx] <;> iassumption

/-- Waiting for the grants and starting the copies of a half. -/
theorem wp_send (K : Dev nD × CK → ℕ) (c : Dev nD) (Q : PUnit → sProp 𝕄) (h : Half) (P : Fin 6) (l : List Pay) (hl : Above (2 * P.val + 1) (copiesL h P.val ++ l))
    (p : Par) (hp : Good p c) (k : Pr F) :
    iprop(Recs X K ∗ gate c h P ∗ sepL (copiesL h P.val) (tok c) ∗ sepL (sl P.val) (srcPart X c h P.val) ∗ sepL (sl P.val) (posJ c h P.val)
        ∗ owesL (copiesL h P.val ++ l) c)
      ⊢ iprop((endCr c h P ∗ sepL (sl P.val) (fun j => iprop(ssCred c h P.val j ∗ posJ c h P.val j)) ∗ owesL l c -∗ WP c Q k)
        -∗ WP c Q (awaitGrant h P.val (starts p h P.val k))) := by
  iintro ⟨#HR, Hg, Ht, Hs, Hp, HO⟩ Hk
  iapply (wp_gate X K c Q h P (copiesL h P.val ++ l) hl _) $$ [Hg HO]
  · isplitr; · iexact HR
    isplitl [Hg]; · iexact Hg
    iexact HO
  iintro ⟨HO, He, Hg⟩
  iapply (wp_starts X K c Q h P l p hp k) $$ [Hs Hg Ht Hp HO]
  · isplitr; · iexact HR
    isplitl [Hs]; · iexact Hs
    isplitl [Hg]; · iexact Hg
    isplitl [Ht]; · iexact Ht
    isplitl [Hp]; · iexact Hp
    iexact HO
  iintro ⟨Hs, HO⟩
  iapply Hk
  isplitl [He]; · iexact He
  isplitl [Hs] <;> iassumption

theorem wp_phase (K : Dev nD × CK → ℕ) (c : Dev nD) (Q : PUnit → sProp 𝕄) (P : Fin 6) (p : Par) (hp : Good p c) (k : Pr F) :
    iprop(Recs X K ∗ St X c P.val ∗ halfRem c .a P ∗ halfRem c .b P)
      ⊢ iprop((St X c (P.val + 1) ∗ endCr c .a P ∗ endCr c .b P -∗ WP c Q k) -∗ WP c Q (phase p P.val k)) := by
  unfold St halfRem halfSt phase
  rw [toPay_step P]
  have hg := above_gate P
  rw [toPay_step P] at hg
  have hc := above_copy P
  iintro ⟨#HR, ⟨Hx, Hout, ⟨Hsa, Hpa, Hra⟩, ⟨Hsb, Hpb, Hrb⟩, HO⟩, ⟨Hga, Hca, Hta, Hda⟩, ⟨Hgb, Hcb, Htb, Hdb⟩⟩ Hk
  ihave Hpa := sepL_use (posJ c .a P.val) P.castSucc $$ Hpa
  icases Hpa with ⟨Hpa, Hqa⟩
  ihave Hpb := sepL_use (posJ c .b P.val) P.castSucc $$ Hpb
  icases Hpb with ⟨Hpb, Hqb⟩
  iapply (wp_stage X c Q .a P P.val p hp _) $$ [Hsa Hx Hout]
  · isplitl [Hsa]; · iexact Hsa
    isplitl [Hx]; · iexact Hx
    iexact Hout
  iintro ⟨Hsa, Hua, Hx, Hout⟩
  ihave Hout := outH_flip X P.val P.val c .a $$ Hout
  iapply (wp_stage X c Q .b P P.val p hp _) $$ [Hsb Hx Hout]
  · isplitl [Hsb]; · iexact Hsb
    isplitl [Hx]; · iexact Hx
    iexact Hout
  iintro ⟨Hsb, Hub, Hx, Hout⟩
  ihave Hout := outH_flip X P.val P.val c .b $$ Hout
  iapply (wp_send X K c Q .a P _ hg p hp _) $$ [Hga Hca Hsa Hpa HO]
  · isplitr; · iexact HR
    isplitl [Hga]; · iexact Hga
    isplitl [Hca]; · iexact Hca
    isplitl [Hsa]; · iexact Hsa
    isplitl [Hpa]; · iexact Hpa
    iexact HO
  iintro ⟨Hea, Hpa, HO⟩
  iapply (wp_send X K c Q .b P _ hg.right p hp _) $$ [Hgb Hcb Hsb Hpb HO]
  · isplitr; · iexact HR
    isplitl [Hgb]; · iexact Hgb
    isplitl [Hcb]; · iexact Hcb
    isplitl [Hsb]; · iexact Hsb
    isplitl [Hpb]; · iexact Hpb
    iexact HO
  iintro ⟨Heb, Hpb, HO⟩
  iapply (wp_finishes X K c Q .a P _ hc _) $$ [Hpa Hda HO]
  · isplitr; · iexact HR
    isplitl [Hpa]; · iexact Hpa
    isplitl [Hda]; · iexact Hda
    iexact HO
  iintro ⟨Hpa, Hsa, Hwa, HO⟩
  iapply (wp_finishes X K c Q .b P _ hc _) $$ [Hpb Hdb HO]
  · isplitr; · iexact HR
    isplitl [Hpb]; · iexact Hpb
    isplitl [Hdb]; · iexact Hdb
    iexact HO
  iintro ⟨Hpb, Hsb, Hwb, HO⟩
  iapply (wp_consume X c Q .a P P.castSucc p hp _) $$ [Hwa Hx Hout]
  · isplitl [Hwa]; · iexact Hwa
    isplitl [Hx]; · iexact Hx
    iexact Hout
  iintro ⟨Hwa, Hx, Hout⟩
  ihave Hout := outH_flip X (P.val + 1) P.castSucc.val c .a $$ Hout
  iapply (wp_consume X c Q .b P P.succ p hp _) $$ [Hwb Hx Hout]
  · isplitl [Hwb]; · iexact Hwb
    isplitl [Hx]; · iexact Hx
    iexact Hout
  iintro ⟨Hwb, Hx, Hout⟩
  ihave Hout := outH_flip X (P.val + 1) P.succ.val c .b $$ Hout
  iapply (wp_regrant X K c Q .a P _ p hp _) $$ [Hta Hwa Hra Hpa Hqa HO]
  · isplitr; · iexact HR
    isplitl [Hta]; · iexact Hta
    isplitl [Hwa]; · iexact Hwa
    isplitl [Hra]; · iexact Hra
    isplitl [Hpa]; · iexact Hpa
    isplitl [Hqa]; · iexact Hqa
    iexact HO
  iintro ⟨Hpa, Hra, HO⟩
  iapply (wp_regrant X K c Q .b P _ p hp _) $$ [Htb Hwb Hrb Hpb Hqb HO]
  · isplitr; · iexact HR
    isplitl [Htb]; · iexact Htb
    isplitl [Hwb]; · iexact Hwb
    isplitl [Hrb]; · iexact Hrb
    isplitl [Hpb]; · iexact Hpb
    isplitl [Hqb]; · iexact Hqb
    iexact HO
  iintro ⟨Hpb, Hrb, HO⟩
  iapply Hk
  isplitr [Hea Heb]
  · isplitl [Hx]; · iexact Hx
    isplitl [Hout]; · iexact Hout
    isplitl [Hsa Hua Hpa Hra]
    · isplitl [Hsa Hua]
      · unfold unsend
        iapply Hua; iexact Hsa
      isplitl [Hpa] <;> iassumption
    isplitl [Hsb Hub Hpb Hrb]
    · isplitl [Hsb Hub]
      · unfold unsend
        iapply Hub; iexact Hsb
      isplitl [Hpb] <;> iassumption
    iexact HO
  isplitl [Hea] <;> iassumption

end Cert.KernelIdeal.Own

end
-- ==== Proof.Ideal.Whole.lean ====
/-
One device's whole program: the barrier and the six phases.
-/
module

public import proofs.«01_k».proof.Proof.Ideal.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))

/-! ## The barrier -/

theorem barS_eq (h : Half) : barS = gsem h 0 := (if_pos rfl).symm

/-- What the grant of slot `j` at the barrier uses. -/
def barIn (c : Dev nD) (h : Half) (j : Fin 3) : sProp 𝕄 :=
  iprop(tok c (.grant h 0 j) ∗ slotAny (recvM h) c (bk (ax h 0) j) ∗ reached ER (cell c (.rs h (bk (ax h 0) j))) (rd (bk (ax h 0) j) 0))

/-- The grants of the barrier still to make. -/
def barPays : List (Fin 3) → List Pay
  | [] => toPay 6
  | j :: l => .grant .a 0 j :: .grant .b 0 j :: barPays l

theorem rd_zero : ∀ j : Fin 3, rd j 0 = 0 := by decide

theorem sepL_with {α : Type} {R : sProp 𝕄} [BI.Persistent R] {Φ Ψ : α → sProp 𝕄} : ∀ l : List α, (∀ a ∈ l, iprop(R ∗ Φ a) ⊢ Ψ a) → iprop(R ∗ sepL l Φ) ⊢ sepL l Ψ
  | [], _ => by
    show iprop(R ∗ emp) ⊢ iprop(emp)
    iintro ⟨-, H⟩
    iexact H
  | a :: l, h => by
    show iprop(R ∗ Φ a ∗ sepL l Φ) ⊢ iprop(Ψ a ∗ sepL l Ψ)
    iintro ⟨#HR, Ha, Hl⟩
    isplitl [Ha]
    · iapply (h a (List.mem_cons_self ..))
      isplitr; · iexact HR
      iexact Ha
    iapply (sepL_with l fun b hb => h b (List.mem_cons_of_mem _ hb))
    isplitr; · iexact HR
    iexact Hl

theorem barIn_intro (K : Dev nD × CK → ℕ) (c : Dev nD) (h : Half) :
    iprop(Recs X K ∗ sepL [0, 1, 2] (fun j => tok c (.grant h 0 j)) ∗ sepL [0, 1, 2] (fun j => slotAny (recvM h) c j)) ⊢ sepL [0, 1, 2] (barIn c h) := by
  iintro ⟨#HR, Ht, Hs⟩
  have hbk : sepL [0, 1, 2] (fun j => (slotAny (recvM h) c j : sProp 𝕄)) ⊢ sepL [0, 1, 2] fun j => slotAny (recvM h) c (bk (ax h 0) j) :=
    sepL_bk (fun j => slotAny (recvM h) c j) h 0
  ihave Hs := hbk $$ Hs
  ihave H := sepL_sep _ _ _ $$ [Ht Hs]
  · isplitl [Ht]; · iexact Ht
    iexact Hs
  have hone : ∀ j : Fin 3, iprop(Recs X K ∗ tok c (.grant h 0 j) ∗ slotAny (recvM h) c (bk (ax h 0) j)) ⊢ barIn c h j := fun j => by
    unfold barIn
    rw [rd_zero]
    iintro ⟨#HR, Ht, Hs⟩
    isplitl [Ht]; · iexact Ht
    isplitl [Hs]; · iexact Hs
    iapply (Recs_reached X K c (.rs h (bk (ax h 0) j))); iexact HR
  iapply (sepL_with [0, 1, 2] fun j _ => hone j)
  isplitr; · iexact HR
  iexact H

theorem bar_pays (c : Dev nD) :
    bigSep (dutiesK .bar 0) (payK X c .bar 0) ⊢ iprop(sepL (sl 0) (fun j => grantPay .a 0 j c) ∗ sepL (sl 0) (fun j => grantPay .b 0 j c)) := by
  have e : dutiesK .bar 0 = (([0, 1, 2] : List (Fin 3)).map (fun j => (Half.a, j)) ++ ([0, 1, 2] : List (Fin 3)).map (fun j => (Half.b, j))).toFinset := by decide
  rw [e, bigSep_toFinset _ _ (by decide)]
  iintro H
  ihave H := sepL_append _ _ _ $$ H
  rw [sepL_map, sepL_map]
  iexact H

theorem wp_barrier (K : Dev nD × CK → ℕ) (c : Dev nD) (Q : PUnit → sProp 𝕄) (p : Par) (hp : Good p c) (k : Pr F) :
    iprop(Recs X K ∗ sepL [0, 1, 2] (barIn c .a) ∗ sepL [0, 1, 2] (barIn c .b) ∗ cred (tallyAt (cell c .bar) 1 6) ∗ atPos ER (cell c .bar) 0 ∅ 0
        ∗ owesL payL c)
      ⊢ iprop((owesL (toPay 6) c ∗ atPos ER (cell c .bar) 1 ∅ 0 ∗ sepL (sl 0) (fun j => grantPay .a 0 j c) ∗ sepL (sl 0) (fun j => grantPay .b 0 j c)
          -∗ WP c Q k) -∗ WP c Q (barrier p k)) := by
  unfold barrier
  iintro ⟨#HR, Ha, Hb, Hcr, Hat, HO⟩ Hk
  ihave H := sepL_sep _ _ _ $$ [Ha Hb]
  · isplitl [Ha]; · iexact Ha
    iexact Hb
  iapply (wp_each c Q (A := fun j => iprop(barIn c .a j ∗ barIn c .b j)) (B := fun _ => iprop(emp))
    (C := fun l => iprop(Recs X K ∗ owesL (barPays l) c))
    (fun j k => grant barS (p.bar .a j) <| grant barS (p.bar .b j) k) (await barS 6#32 k) [0, 1, 2] fun j hj l' k' => by
      have hj0 : j ∈ sl (0 : Fin 6).val := by revert j; decide
      unfold barIn
      iintro ⟨⟨⟨Hta, Hsa, Hra⟩, ⟨Htb, Hsb, Hrb⟩⟩, #HR, HO⟩ Hk
      iapply (wp_grant X K c Q .a 0 j hj0 (.grant .b 0 j :: barPays l') barS (barS_eq .a) (p.bar .a j) (hp.bar .a j) (grant barS (p.bar .b j) k')) $$ [Hta Hsa Hra HO]
      · isplitr; · iexact HR
        isplitl [Hta]; · iexact Hta
        isplitl [Hsa]; · iexact Hsa
        isplitl [Hra]; · iexact Hra
        iexact HO
      iintro HO
      iapply (wp_grant X K c Q .b 0 j hj0 (barPays l') barS (barS_eq .b) (p.bar .b j) (hp.bar .b j) k') $$ [Htb Hsb Hrb HO]
      · isplitr; · iexact HR
        isplitl [Htb]; · iexact Htb
        isplitl [Hsb]; · iexact Hsb
        isplitl [Hrb]; · iexact Hrb
        iexact HO
      iintro HO
      iapply Hk
      isplitr; · iempintro
      isplitr; · iexact HR
      iexact HO) $$ [H HO]
  · isplitl [H]; · iexact H
    isplitr; · iexact HR
    iexact HO
  iintro ⟨-, -, HO⟩
  iapply (wp_wait_cell X K c Q .bar barS rfl 1 (by decide) (toPay 6) (above_gate 0) 6#32 6 (by decide) (by decide) k) $$ [Hcr Hat HO]
  · isplitr; · iexact HR
    isplitl [Hcr]; · iexact Hcr
    isplitl [Hat]; · iexact Hat
    iexact HO
  iintro ⟨HO, Hat, Hp⟩
  ihave Hp := bar_pays X c $$ Hp
  icases Hp with ⟨Hpa, Hpb⟩
  iapply Hk
  isplitl [HO]; · iexact HO
  isplitl [Hat]; · iexact Hat
  isplitl [Hpa]; · iexact Hpa
  iexact Hpb

/-! ## What is set aside for the phases to come -/

/-- The credit a device holds for a payment made to it. -/
def inc (c : Dev nD) (u : Pay) : sProp 𝕄 := cred (tallyAt (cell c u.at') u.lev u.amt)

/-- Unit credits of one cell add up. -/
theorem cred_units {α : Type} (g : GSem nD τ sig) (i : ℕ) : ∀ l : List α, sepL l (fun _ => (cred (tallyAt g i 1) : sProp 𝕄)) ⊢ cred (tallyAt g i l.length)
  | [] => by
    show iprop(emp) ⊢ cred (tallyAt g i 0)
    rw [tallyAt_zero, cred_zero]
  | a :: l => by
    show iprop(cred (tallyAt g i 1) ∗ sepL l fun _ => cred (tallyAt g i 1)) ⊢ cred (tallyAt g i (l.length + 1))
    rw [Nat.add_comm l.length 1, ← tallyAt_add]
    iintro ⟨H1, H2⟩
    ihave H2 := cred_units g i l $$ H2
    iapply (cred_add _ _).2
    isplitl [H1]; · iexact H1
    iexact H2

theorem inc_copies (c : Dev nD) (h : Half) (P : Fin 6) : sepL (copiesL h P.val) (inc c) ⊢ (sepL (sl P.val) (rsCred c h P.val) : sProp 𝕄) := by
  rw [copiesL_eq, sepL_map]; exact BI.Entails.refl _

theorem inc_grants (c : Dev nD) (h : Half) (P : Fin 6) (hP : P ≠ 0) :
    iprop(sepL (grantsL h P.val) (inc c) ∗ atPos ER (cell c (.cr h P)) 0 ∅ 0) ⊢ (gate c h P : sProp 𝕄) := by
  have e : gcell h P = .cr h P := if_neg hP
  unfold gate
  rw [if_neg hP, grantsL_eq, sepL_map]
  have e' : (fun j => inc c (.grant h P j)) = fun _ : Fin 3 => (cred (tallyAt (cell c (.cr h P)) (2 * P.val + 1) 1) : sProp 𝕄) := by
    funext j; unfold inc; show cred (tallyAt (cell c (gcell h P)) _ 1) = _; rw [e]; rfl
  rw [e']
  exact BI.sep_mono (cred_units _ _ _) (BI.Entails.refl _)

/-- The gates of phase `P`, while there is one. -/
def gates (c : Dev nD) (P : ℕ) : sProp 𝕄 := if h : P < 6 then iprop(gate c .a ⟨P, h⟩ ∗ gate c .b ⟨P, h⟩) else iprop(emp)

/-- The phases after phase `P`. -/
def after (P : ℕ) : List (Fin 6) := (List.finRange 6).filter fun P' => P < P'.val

def atCr (c : Dev nD) (P : Fin 6) : sProp 𝕄 := iprop(atPos ER (cell c (.cr .a P)) 0 ∅ 0 ∗ atPos ER (cell c (.cr .b P)) 0 ∅ 0)

/-- What the phases from `P` on use. -/
def Todo (c : Dev nD) (P : ℕ) : sProp 𝕄 :=
  iprop(gates c P ∗ sepL (after P) (atCr c) ∗ sepL (toPay (6 - P)) (tok c) ∗ sepL (toPay (6 - P)) (inc c))

theorem after_step : ∀ (P : Fin 6) (h : P.val + 1 < 6), after P.val = ⟨P.val + 1, h⟩ :: after (P.val + 1) := by decide
theorem after_last : ∀ (P : Fin 6), ¬ P.val + 1 < 6 → after P.val = [] ∧ after (P.val + 1) = [] := by decide

theorem gates_next (c : Dev nD) (P : Fin 6) :
    iprop(sepL (after P.val) (atCr c) ∗ sepL (grantsL .a (P.val + 1)) (inc c) ∗ sepL (grantsL .b (P.val + 1)) (inc c))
      ⊢ (iprop(gates c (P.val + 1) ∗ sepL (after (P.val + 1)) (atCr c)) : sProp 𝕄) := by
  unfold gates
  by_cases h : P.val + 1 < 6
  · rw [dif_pos h, after_step P h]
    show iprop((atCr c ⟨P.val + 1, h⟩ ∗ sepL (after (P.val + 1)) (atCr c)) ∗ _) ⊢ _
    have hne : (⟨P.val + 1, h⟩ : Fin 6) ≠ 0 := fun e => absurd (congrArg Fin.val e) (Nat.succ_ne_zero _)
    unfold atCr
    iintro ⟨⟨⟨Haa, Hab⟩, Hr⟩, Ha, Hb⟩
    isplitr [Hr]
    · isplitl [Ha Haa]
      · iapply (inc_grants c .a ⟨P.val + 1, h⟩ hne)
        isplitl [Ha]; · iexact Ha
        iexact Haa
      iapply (inc_grants c .b ⟨P.val + 1, h⟩ hne)
      isplitl [Hb]; · iexact Hb
      iexact Hab
    iexact Hr
  · rw [dif_neg h, (after_last P h).1, (after_last P h).2]
    iintro ⟨H, -, -⟩
    isplitr; · iempintro
    iexact H

theorem Todo_step (c : Dev nD) (P : Fin 6) : Todo c P.val ⊢ (iprop(halfRem c .a P ∗ halfRem c .b P ∗ Todo c (P.val + 1)) : sProp 𝕄) := by
  unfold Todo halfRem
  have e : gates c P.val = (iprop(gate c .a P ∗ gate c .b P) : sProp 𝕄) := dif_pos P.isLt
  rw [e, toPay_step P]
  iintro ⟨⟨Hga, Hgb⟩, Haf, Ht, Hi⟩
  ihave Ht := sepL_append _ _ _ $$ Ht
  icases Ht with ⟨Ht1, Ht⟩
  ihave Ht := sepL_append _ _ _ $$ Ht
  icases Ht with ⟨Ht2, Ht⟩
  ihave Ht := sepL_append _ _ _ $$ Ht
  icases Ht with ⟨Ht3, Ht⟩
  ihave Ht := sepL_append _ _ _ $$ Ht
  icases Ht with ⟨Ht4, Ht⟩
  ihave Hi := sepL_append _ _ _ $$ Hi
  icases Hi with ⟨Hi1, Hi⟩
  ihave Hi := sepL_append _ _ _ $$ Hi
  icases Hi with ⟨Hi2, Hi⟩
  ihave Hi := sepL_append _ _ _ $$ Hi
  icases Hi with ⟨Hi3, Hi⟩
  ihave Hi := sepL_append _ _ _ $$ Hi
  icases Hi with ⟨Hi4, Hi⟩
  ihave Hi1 := inc_copies c .a P $$ Hi1
  ihave Hi2 := inc_copies c .b P $$ Hi2
  ihave Hn := gates_next c P $$ [Haf Hi3 Hi4]
  · isplitl [Haf]; · iexact Haf
    isplitl [Hi3]; · iexact Hi3
    iexact Hi4
  icases Hn with ⟨Hn1, Hn2⟩
  isplitl [Hga Ht1 Ht3 Hi1]
  · isplitl [Hga]; · iexact Hga
    isplitl [Ht1]; · iexact Ht1
    isplitl [Ht3]; · iexact Ht3
    iexact Hi1
  isplitl [Hgb Ht2 Ht4 Hi2]
  · isplitl [Hgb]; · iexact Hgb
    isplitl [Ht2]; · iexact Ht2
    isplitl [Ht4]; · iexact Ht4
    iexact Hi2
  isplitl [Hn1]; · iexact Hn1
  isplitl [Hn2]; · iexact Hn2
  isplitl [Ht]; · iexact Ht
  iexact Hi

theorem wp_phase_todo (K : Dev nD × CK → ℕ) (c : Dev nD) (Q : PUnit → sProp 𝕄) (P : Fin 6) (p : Par) (hp : Good p c) (k : Pr F) :
    iprop(Recs X K ∗ St X c P.val ∗ Todo c P.val)
      ⊢ iprop((St X c (P.val + 1) ∗ Todo c (P.val + 1) ∗ endCr c .a P ∗ endCr c .b P -∗ WP c Q k) -∗ WP c Q (phase p P.val k)) := by
  iintro ⟨#HR, HS, HT⟩ Hk
  ihave HT := Todo_step c P $$ HT
  icases HT with ⟨Ha, Hb, HT⟩
  iapply (wp_phase X K c Q P p hp k) $$ [HS Ha Hb]
  · isplitr; · iexact HR
    isplitl [HS]; · iexact HS
    isplitl [Ha]; · iexact Ha
    iexact Hb
  iintro ⟨HS, Ha, Hb⟩
  iapply Hk
  isplitl [HS]; · iexact HS
  isplitl [HT]; · iexact HT
  isplitl [Ha]; · iexact Ha
  iexact Hb

end Cert.KernelIdeal.Own

end
-- ==== Proof.Ideal.Device.lean ====
/-
One device's program from start to end.
-/
module

public import proofs.«01_k».proof.Proof.Ideal.Whole

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F))

/-! ## The cells of a device, by their use -/

theorem cells_open (Φ : CK → sProp 𝕄) : sepL allK Φ
    ⊢ iprop(Φ .bar ∗ sepL [0, 1, 2] (fun j => iprop(Φ (.rs .a j) ∗ Φ (.ss .a j))) ∗ sepL [0, 1, 2] (fun j => iprop(Φ (.rs .b j) ∗ Φ (.ss .b j)))
      ∗ (Φ (.cr .a 0) ∗ Φ (.cr .b 0)) ∗ sepL [1, 2, 3, 4, 5] (fun P => iprop(Φ (.cr .a P) ∗ Φ (.cr .b P)))) := by
  simp only [allK, ownK, sepL]
  iintro ⟨Hbar, Hsa0, Hsa1, Hsa2, Hra0, Hra1, Hra2, Hsb0, Hsb1, Hsb2, Hrb0, Hrb1, Hrb2, Hca0, Hca1, Hca2, Hca3, Hca4, Hca5, Hcb0, Hcb1, Hcb2, Hcb3, Hcb4, Hcb5, -⟩
  isplitl [Hbar]
  · iexact Hbar
  isplitl [Hra0 Hsa0 Hra1 Hsa1 Hra2 Hsa2]
  · isplitl [Hra0 Hsa0]
    · isplitl [Hra0]
      · iexact Hra0
      iexact Hsa0
    isplitl [Hra1 Hsa1]
    · isplitl [Hra1]
      · iexact Hra1
      iexact Hsa1
    isplitl [Hra2 Hsa2]
    · isplitl [Hra2]
      · iexact Hra2
      iexact Hsa2
    iempintro
  isplitl [Hrb0 Hsb0 Hrb1 Hsb1 Hrb2 Hsb2]
  · isplitl [Hrb0 Hsb0]
    · isplitl [Hrb0]
      · iexact Hrb0
      iexact Hsb0
    isplitl [Hrb1 Hsb1]
    · isplitl [Hrb1]
      · iexact Hrb1
      iexact Hsb1
    isplitl [Hrb2 Hsb2]
    · isplitl [Hrb2]
      · iexact Hrb2
      iexact Hsb2
    iempintro
  isplitl [Hca0 Hcb0]
  · isplitl [Hca0]
    · iexact Hca0
    iexact Hcb0
  isplitl [Hca1 Hcb1]
  · isplitl [Hca1]
    · iexact Hca1
    iexact Hcb1
  isplitl [Hca2 Hcb2]
  · isplitl [Hca2]
    · iexact Hca2
    iexact Hcb2
  isplitl [Hca3 Hcb3]
  · isplitl [Hca3]
    · iexact Hca3
    iexact Hcb3
  isplitl [Hca4 Hcb4]
  · isplitl [Hca4]
    · iexact Hca4
    iexact Hcb4
  isplitl [Hca5 Hcb5]
  · isplitl [Hca5]
    · iexact Hca5
    iexact Hcb5
  iempintro

theorem cells_shut (Φ : CK → sProp 𝕄) : iprop(Φ .bar ∗ sepL [0, 1, 2] (fun j => iprop(Φ (.rs .a j) ∗ Φ (.ss .a j))) ∗ sepL [0, 1, 2] (fun j => iprop(Φ (.rs .b j) ∗ Φ (.ss .b j)))
      ∗ (Φ (.cr .a 0) ∗ Φ (.cr .b 0)) ∗ sepL [1, 2, 3, 4, 5] (fun P => iprop(Φ (.cr .a P) ∗ Φ (.cr .b P))))
    ⊢ sepL allK Φ := by
  simp only [allK, ownK, sepL]
  iintro ⟨Hbar, ⟨⟨Hra0, Hsa0⟩, ⟨Hra1, Hsa1⟩, ⟨Hra2, Hsa2⟩, -⟩, ⟨⟨Hrb0, Hsb0⟩, ⟨Hrb1, Hsb1⟩, ⟨Hrb2, Hsb2⟩, -⟩, ⟨Hca0, Hcb0⟩, ⟨⟨Hca1, Hcb1⟩, ⟨Hca2, Hcb2⟩, ⟨Hca3, Hcb3⟩, ⟨Hca4, Hcb4⟩, ⟨Hca5, Hcb5⟩, -⟩⟩
  isplitl [Hbar]
  · iexact Hbar
  isplitl [Hsa0]
  · iexact Hsa0
  isplitl [Hsa1]
  · iexact Hsa1
  isplitl [Hsa2]
  · iexact Hsa2
  isplitl [Hra0]
  · iexact Hra0
  isplitl [Hra1]
  · iexact Hra1
  isplitl [Hra2]
  · iexact Hra2
  isplitl [Hsb0]
  · iexact Hsb0
  isplitl [Hsb1]
  · iexact Hsb1
  isplitl [Hsb2]
  · iexact Hsb2
  isplitl [Hrb0]
  · iexact Hrb0
  isplitl [Hrb1]
  · iexact Hrb1
  isplitl [Hrb2]
  · iexact Hrb2
  isplitl [Hca0]
  · iexact Hca0
  isplitl [Hca1]
  · iexact Hca1
  isplitl [Hca2]
  · iexact Hca2
  isplitl [Hca3]
  · iexact Hca3
  isplitl [Hca4]
  · iexact Hca4
  isplitl [Hca5]
  · iexact Hca5
  isplitl [Hcb0]
  · iexact Hcb0
  isplitl [Hcb1]
  · iexact Hcb1
  isplitl [Hcb2]
  · iexact Hcb2
  isplitl [Hcb3]
  · iexact Hcb3
  isplitl [Hcb4]
  · iexact Hcb4
  isplitl [Hcb5]
  · iexact Hcb5
  iempintro

/-! ## One device from start to end -/

/-- What a device starts from, besides the facts shared by all. -/
def bodyIn (c : Dev nD) : sProp 𝕄 :=
  iprop(xRes c (X c) ∗ (∃ g, oRes c g) ∗ (sendAll c .a ∗ sendAll c .b)
    ∗ (sepL [0, 1, 2] (fun j => slotAny (recvM .a) c j) ∗ sepL [0, 1, 2] (fun j => slotAny (recvM .b) c j))
    ∗ sepL allK (fun k => atPos ER (cell c k) 0 ∅ 0) ∗ sepL payL (tok c) ∗ sepL payL (inc c) ∗ owesL payL c)

/-- What it ends with. -/
def bodyOut (c : Dev nD) : sProp 𝕄 :=
  iprop(xRes c (X c) ∗ outH X .a 6 6 c ∗ (sendAll c .a ∗ sendAll c .b)
    ∗ (sepL [0, 1, 2] (fun j => slotAny (recvM .a) c j) ∗ sepL [0, 1, 2] (fun j => slotAny (recvM .b) c j))
    ∗ sepL allK (fun k => atPos ER (cell c k) (lastR k) ∅ 0) ∗ owesL [] c)

theorem none_zero (h : Half) (c : Dev nD) (i : S2048x1024.Idx) : ¬ inReg h 0 c i := by
  have e : regN 0 = 0 := rfl
  unfold inReg inRows
  rw [e]
  intro ⟨h1, h2⟩
  omega

theorem out_zero (c : Dev nD) : (iprop(∃ g, oRes c g) : sProp 𝕄) ⊢ outH X .a 0 0 c := by
  unfold outH
  iintro ⟨%g, H⟩
  iexists g
  isplitr
  · ipureintro
    exact ⟨fun i hi => absurd hi (none_zero .a c i), fun i hi => absurd hi (none_zero .b c i)⟩
  iexact H

theorem posJ_zero (K : Dev nD × CK → ℕ) (c : Dev nD) (h : Half) :
    iprop(Recs X K ∗ sepL [0, 1, 2] (fun j => iprop(atPos ER (cell c (.rs h j)) 0 ∅ 0 ∗ atPos ER (cell c (.ss h j)) 0 ∅ 0))) ⊢ sepL [0, 1, 2] (posJ c h 0) := by
  refine sepL_with [0, 1, 2] fun j _ => ?_
  unfold posJ
  rw [rd_zero]
  iintro ⟨#HR, H1, H2⟩
  isplitl [H1]; · iexact H1
  isplitr; · iapply (Recs_reached X K c (.rs h j)); iexact HR
  isplitl [H2]; · iexact H2
  iapply (Recs_reached X K c (.ss h j)); iexact HR

theorem rd_last : ∀ j : Fin 3, rd j 6 = rds j := by decide

theorem posJ_last (c : Dev nD) (h : Half) :
    sepL [0, 1, 2] (posJ c h 6) ⊢ (sepL [0, 1, 2] (fun j => iprop(atPos ER (cell c (.rs h j)) (lastR (.rs h j)) ∅ 0 ∗ atPos ER (cell c (.ss h j)) (lastR (.ss h j)) ∅ 0)) : sProp 𝕄) := by
  refine sepL_mono [0, 1, 2] fun j _ => ?_
  unfold posJ
  rw [rd_last]
  iintro ⟨H1, -, H2, -⟩
  isplitl [H1]; · iexact H1
  iexact H2

theorem bar_toks (Φ : Pay → sProp 𝕄) : sepL payL Φ
    ⊢ iprop(sepL [0, 1, 2] (fun j => Φ (.grant .a 0 j)) ∗ sepL [0, 1, 2] (fun j => Φ (.grant .b 0 j)) ∗ sepL (toPay 6) Φ) := by
  unfold payL
  iintro H
  ihave H := sepL_append _ _ _ $$ H
  icases H with ⟨H, Hr⟩
  have e : sepL barL Φ ⊢ iprop(sepL [0, 1, 2] (fun j => Φ (.grant .a 0 j)) ∗ sepL [0, 1, 2] (fun j => Φ (.grant .b 0 j))) := by
    simp only [barL, sepL]
    iintro ⟨H1, H2, H3, H4, H5, H6, -⟩
    isplitl [H1 H3 H5]
    · isplitl [H1]; · iexact H1
      isplitl [H3]; · iexact H3
      isplitl [H5]; · iexact H5
      iempintro
    isplitl [H2]; · iexact H2
    isplitl [H4]; · iexact H4
    isplitl [H6]; · iexact H6
    iempintro
  ihave H := e $$ H
  icases H with ⟨Ha, Hb⟩
  isplitl [Ha]; · iexact Ha
  isplitl [Hb]; · iexact Hb
  iexact Hr

theorem bar_cred (c : Dev nD) :
    iprop(sepL [0, 1, 2] (fun j => inc c (.grant .a 0 j)) ∗ sepL [0, 1, 2] (fun j => inc c (.grant .b 0 j))) ⊢ (cred (tallyAt (cell c .bar) 1 6) : sProp 𝕄) := by
  have e : ∀ h : Half, sepL [0, 1, 2] (fun j => inc c (.grant h 0 j)) ⊢ (cred (tallyAt (cell c .bar) 1 ([0, 1, 2] : List (Fin 3)).length) : sProp 𝕄) := fun h =>
    cred_units (cell c .bar) 1 ([0, 1, 2] : List (Fin 3))
  iintro ⟨Ha, Hb⟩
  ihave Ha := e .a $$ Ha
  ihave Hb := e .b $$ Hb
  rw [show 6 = ([0, 1, 2] : List (Fin 3)).length + ([0, 1, 2] : List (Fin 3)).length from rfl, ← tallyAt_add]
  iapply (cred_add _ _).2
  isplitl [Ha]; · iexact Ha
  iexact Hb

theorem start_todo (c : Dev nD) :
    iprop(sepL (sl 0) (fun j => grantPay .a 0 j c) ∗ sepL (sl 0) (fun j => grantPay .b 0 j c) ∗ (atPos ER (cell c (.cr .a 0)) 0 ∅ 0 ∗ atPos ER (cell c (.cr .b 0)) 0 ∅ 0)
        ∗ sepL [1, 2, 3, 4, 5] (atCr c) ∗ sepL (toPay 6) (tok c) ∗ sepL (toPay 6) (inc c))
      ⊢ (Todo c 0 : sProp 𝕄) := by
  have e : gates c 0 = (iprop(gate c .a 0 ∗ gate c .b 0) : sProp 𝕄) := dif_pos (by decide)
  have ea : ∀ h : Half, gate c h 0 = (iprop(sepL (sl 0) (fun j => grantPay h 0 j c) ∗ atPos ER (cell c (.cr h 0)) 0 ∅ 0) : sProp 𝕄) := fun h => if_pos rfl
  have ef : after 0 = [1, 2, 3, 4, 5] := by decide
  unfold Todo
  rw [e, ea, ea, ef]
  iintro ⟨Ha, Hb, ⟨Hca, Hcb⟩, Hc, Ht, Hi⟩
  isplitl [Ha Hb Hca Hcb]
  · isplitl [Ha Hca]
    · isplitl [Ha]; · iexact Ha
      iexact Hca
    isplitl [Hb]; · iexact Hb
    iexact Hcb
  isplitl [Hc]; · iexact Hc
  isplitl [Ht]; · iexact Ht
  iexact Hi

theorem start_St (K : Dev nD × CK → ℕ) (c : Dev nD) :
    iprop(Recs X K ∗ xRes c (X c) ∗ (∃ g, oRes c g) ∗ (sendAll c .a ∗ sendAll c .b)
        ∗ sepL [0, 1, 2] (fun j => iprop(atPos ER (cell c (.rs .a j)) 0 ∅ 0 ∗ atPos ER (cell c (.ss .a j)) 0 ∅ 0))
        ∗ sepL [0, 1, 2] (fun j => iprop(atPos ER (cell c (.rs .b j)) 0 ∅ 0 ∗ atPos ER (cell c (.ss .b j)) 0 ∅ 0)) ∗ owesL (toPay 6) c)
      ⊢ St X c 0 := by
  unfold St halfSt
  iintro ⟨#HR, Hx, Ho, ⟨Hsa, Hsb⟩, Ha, Hb, HO⟩
  isplitl [Hx]; · iexact Hx
  isplitl [Ho]; · iapply (out_zero X c); iexact Ho
  isplitl [Hsa Ha]
  · isplitl [Hsa]; · iexact Hsa
    isplitl
    · iapply (posJ_zero X K c .a)
      isplitr; · iexact HR
      iexact Ha
    iempintro
  isplitl [Hsb Hb]
  · isplitl [Hsb]; · iexact Hsb
    isplitl
    · iapply (posJ_zero X K c .b)
      isplitr; · iexact HR
      iexact Hb
    iempintro
  iexact HO

theorem end_St (c : Dev nD) :
    iprop(St X c 6 ∗ atPos ER (cell c .bar) 1 ∅ 0 ∗ (endCr c .a 0 ∗ endCr c .b 0) ∗ sepL [1, 2, 3, 4, 5] (fun P => iprop(endCr c .a P ∗ endCr c .b P)))
      ⊢ bodyOut X c := by
  unfold St halfSt bodyOut
  iintro ⟨⟨Hx, Ho, ⟨Hsa, Hpa, Hra⟩, ⟨Hsb, Hpb, Hrb⟩, HO⟩, Hbar, Hc, Hcs⟩
  isplitl [Hx]; · iexact Hx
  isplitl [Ho]; · iexact Ho
  isplitl [Hsa Hsb]
  · isplitl [Hsa]; · iexact Hsa
    iexact Hsb
  isplitl [Hra Hrb]
  · isplitl [Hra]; · iexact Hra
    iexact Hrb
  isplitr [HO]
  · iapply (cells_shut fun k => atPos ER (cell c k) (lastR k) ∅ 0)
    isplitl [Hbar]; · iexact Hbar
    isplitl [Hpa]; · iapply (posJ_last c .a); iexact Hpa
    isplitl [Hpb]; · iapply (posJ_last c .b); iexact Hpb
    isplitl [Hc]; · iexact Hc
    iexact Hcs
  iexact HO

theorem five (Φ : Fin 6 → sProp 𝕄) : iprop(Φ 1 ∗ Φ 2 ∗ Φ 3 ∗ Φ 4 ∗ Φ 5) ⊢ sepL [1, 2, 3, 4, 5] Φ := by
  simp only [sepL]
  iintro ⟨H1, H2, H3, H4, H5⟩
  isplitl [H1]; · iexact H1
  isplitl [H2]; · iexact H2
  isplitl [H3]; · iexact H3
  isplitl [H4]; · iexact H4
  isplitl [H5]; · iexact H5
  iempintro

theorem wp_prog (K : Dev nD × CK → ℕ) (c : Dev nD) (Q : PUnit → sProp 𝕄) (p : Par) (hp : Good p c) :
    iprop(Recs X K ∗ bodyIn X c) ⊢ iprop((bodyOut X c -∗ WP c Q (Prog.ret ⟨⟩)) -∗ WP c Q (prog p)) := by
  unfold bodyIn prog
  iintro ⟨#HR, Hx, Ho, Hs, ⟨Hra, Hrb⟩, Hat, Ht, Hi, HO⟩ Hk
  ihave Hat := cells_open (fun k => atPos ER (cell c k) 0 ∅ 0) $$ Hat
  icases Hat with ⟨Hbar, Hpa, Hpb, Hc0, Hcs⟩
  ihave Ht := bar_toks (tok c) $$ Ht
  icases Ht with ⟨Hta, Htb, Ht⟩
  ihave Hi := bar_toks (inc c) $$ Hi
  icases Hi with ⟨Hia, Hib, Hi⟩
  ihave Hcr := bar_cred c $$ [Hia Hib]
  · isplitl [Hia]; · iexact Hia
    iexact Hib
  ihave Ha := barIn_intro X K c .a $$ [Hta Hra]
  · isplitr; · iexact HR
    isplitl [Hta]; · iexact Hta
    iexact Hra
  ihave Hb := barIn_intro X K c .b $$ [Htb Hrb]
  · isplitr; · iexact HR
    isplitl [Htb]; · iexact Htb
    iexact Hrb
  iapply (wp_barrier X K c Q p hp _) $$ [Ha Hb Hcr Hbar HO]
  · isplitr; · iexact HR
    isplitl [Ha]; · iexact Ha
    isplitl [Hb]; · iexact Hb
    isplitl [Hcr]; · iexact Hcr
    isplitl [Hbar]; · iexact Hbar
    iexact HO
  iintro ⟨HO, Hbar, Hga, Hgb⟩
  ihave HT := start_todo c $$ [Hga Hgb Hc0 Hcs Ht Hi]
  · isplitl [Hga]; · iexact Hga
    isplitl [Hgb]; · iexact Hgb
    isplitl [Hc0]; · iexact Hc0
    isplitl [Hcs]; · iexact Hcs
    isplitl [Ht]; · iexact Ht
    iexact Hi
  ihave HS := start_St X K c $$ [Hx Ho Hs Hpa Hpb HO]
  · isplitr; · iexact HR
    isplitl [Hx]; · iexact Hx
    isplitl [Ho]; · iexact Ho
    isplitl [Hs]; · iexact Hs
    isplitl [Hpa]; · iexact Hpa
    isplitl [Hpb]; · iexact Hpb
    iexact HO
  iapply (wp_phase_todo X K c Q 0 p hp _) $$ [HS HT]
  · isplitr; · iexact HR
    isplitl [HS]; · iexact HS
    iexact HT
  iintro ⟨HS, HT, He0a, He0b⟩
  iapply (wp_phase_todo X K c Q 1 p hp _) $$ [HS HT]
  · isplitr; · iexact HR
    isplitl [HS]; · iexact HS
    iexact HT
  iintro ⟨HS, HT, He1a, He1b⟩
  iapply (wp_phase_todo X K c Q 2 p hp _) $$ [HS HT]
  · isplitr; · iexact HR
    isplitl [HS]; · iexact HS
    iexact HT
  iintro ⟨HS, HT, He2a, He2b⟩
  iapply (wp_phase_todo X K c Q 3 p hp _) $$ [HS HT]
  · isplitr; · iexact HR
    isplitl [HS]; · iexact HS
    iexact HT
  iintro ⟨HS, HT, He3a, He3b⟩
  iapply (wp_phase_todo X K c Q 4 p hp _) $$ [HS HT]
  · isplitr; · iexact HR
    isplitl [HS]; · iexact HS
    iexact HT
  iintro ⟨HS, HT, He4a, He4b⟩
  iapply (wp_phase_todo X K c Q 5 p hp _) $$ [HS HT]
  · isplitr; · iexact HR
    isplitl [HS]; · iexact HS
    iexact HT
  iintro ⟨HS, HT, He5a, He5b⟩
  iapply Hk
  iapply (end_St X c)
  isplitl [HS]; · iexact HS
  isplitl [Hbar]; · iexact Hbar
  isplitl [He0a He0b]
  · isplitl [He0a]; · iexact He0a
    iexact He0b
  iapply (five fun P => iprop(endCr c .a P ∗ endCr c .b P))
  isplitl [He1a He1b]
  · isplitl [He1a]; · iexact He1a
    iexact He1b
  isplitl [He2a He2b]
  · isplitl [He2a]; · iexact He2a
    iexact He2b
  isplitl [He3a He3b]
  · isplitl [He3a]; · iexact He3a
    iexact He3b
  isplitl [He4a He4b]
  · isplitl [He4a]; · iexact He4a
    iexact He4b
  isplitl [He5a]; · iexact He5a
  iexact He5b

end Cert.KernelIdeal.Own

end
-- ==== Proof.Ideal.Slots.lean ====
/-
The transfer buffers as their slots.
-/
module

public import proofs.«01_k».proof.Proof.Ideal.Device

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A transfer buffer as its three slots -/

section Slots
variable (M : Memref sig .tc .vmem S3x256x1024 .bf16) (hM : M.view.set = Finset.univ) (c : Dev nD)
include hM

omit hM in
theorem slot_mem (j : Fin 3) (i : S3x256x1024.Idx) : i ∈ (slotR ok256 j).set ↔ (i 0).val = j.val := by
  rw [Rect.mem_set_unit]
  constructor
  · intro h
    have h0 := h 0
    have e : (B3 256).size 0 = 1 := rfl
    rw [e] at h0
    have e' : (![j.val, 0, 0] : Fin 3 → ℕ) 0 = j.val := rfl
    rw [e'] at h0
    omega
  · intro h a
    have h1 : (i 1).val < 256 := (i 1).isLt
    have h2 : (i 2).val < 1024 := (i 2).isLt
    fin_cases a
    · show j.val ≤ (i 0).val ∧ (i 0).val < j.val + 1
      omega
    · show 0 ≤ (i 1).val ∧ (i 1).val < 0 + 256
      omega
    · show 0 ≤ (i 2).val ∧ (i 2).val < 0 + 1024
      omega

/-- The places of slot `j`. -/
def slotSet (j : Fin 3) : Finset (Idx (M.view.loc (c : Thread nD τ))) := (M.access (slotR ok256 j)).set

omit hM in
theorem slots_disjoint (j j' : Fin 3) (h : j ≠ j') : Disjoint (slotSet M c j) (slotSet M c j') := by
  show Disjoint (M.view.slice (slotR ok256 j)).set (M.view.slice (slotR ok256 j')).set
  rw [View.set_slice, View.set_slice]
  refine (Finset.disjoint_map _).mpr (Finset.disjoint_left.mpr fun i hi hi' => h ?_)
  exact Fin.ext (((slot_mem j i).mp hi).symm.trans ((slot_mem j' i).mp hi'))

theorem slots_univ : (Finset.univ : Finset (Fin 3)).biUnion (slotSet M c) = Finset.univ := by
  refine Finset.eq_univ_iff_forall.mpr fun x => ?_
  have hx : x ∈ M.view.set := by rw [hM]; exact Finset.mem_univ x
  obtain ⟨i, -, rfl⟩ := Finset.mem_map.mp hx
  refine Finset.mem_biUnion.mpr ⟨⟨(i 0).val, (i 0).isLt⟩, Finset.mem_univ _, ?_⟩
  show _ ∈ (M.view.slice _).set
  rw [View.set_slice]
  exact Finset.mem_map_of_mem _ ((slot_mem _ i).mpr rfl)

theorem slots_split : iprop(∃ f : Buf (Elt F) (M.view.loc (c : Thread nD τ)), M.view.loc (c : Thread nD τ) ↦{fullShare} f) ⊢ (sepL [0, 1, 2] (fun j => slotAny M c j) : sProp 𝕄) := by
  iintro ⟨%f, H⟩
  have e : (M.view.loc (c : Thread nD τ) ↦{fullShare} f : sProp 𝕄)
      ⊢ bigSep Finset.univ fun j : Fin 3 => M.view.loc (c : Thread nD τ) ↦[slotSet M c j]{fullShare} f := by
    rw [← pointsTo_biUnion Finset.univ _ fun j _ j' _ h => slots_disjoint M c j j' h, slots_univ M hM c]
  rw [show (Finset.univ : Finset (Fin 3)) = [0, 1, 2].toFinset by decide, bigSep_toFinset _ _ (by decide)] at e
  ihave H := e $$ H
  iapply (sepL_mono [0, 1, 2] fun j _ => show _ ⊢ slotAny M c j from by
    unfold slotAny
    iintro H
    iexists f
    iexact H)
  iexact H

theorem slots_join : (sepL [0, 1, 2] (fun j => slotAny M c j) : sProp 𝕄) ⊢ iprop(∃ f : Buf (Elt F) (M.view.loc (c : Thread nD τ)), M.view.loc (c : Thread nD τ) ↦{fullShare} f) := by
  simp only [sepL, slotAny]
  iintro ⟨⟨%f0, H0⟩, ⟨%f1, H1⟩, ⟨%f2, H2⟩, -⟩
  have e := pointsTo_biUnion_join (Val := Elt F) (Ix := ℕ) (Name := ℕ) (U := UU) (Lvl := ℕ) (q := fullShare) (Finset.univ : Finset (Fin 3))
    (slotSet M c) (fun j => if j = 0 then f0 else if j = 1 then f1 else f2) f0
    fun j _ j' _ h => slots_disjoint M c j j' h
  rw [slots_univ M hM c, show (Finset.univ : Finset (Fin 3)) = [0, 1, 2].toFinset by decide, bigSep_toFinset _ _ (by decide)] at e
  ihave H := e $$ [H0 H1 H2]
  · simp only [sepL]
    isplitl [H0]; · iexact H0
    isplitl [H1]; · iexact H1
    isplitl [H2]; · iexact H2
    iempintro
  icases H with ⟨%g, -, H⟩
  iexists g
  iexact H

end Slots

end Cert.KernelIdeal.Own

end
-- ==== Proof.Ideal.Region.lean ====
/-
The region's data and its body's obligation.
-/
module

public import proofs.«01_k».proof.Proof.Ideal.Slots
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- What a device's input block holds, and what its result block is to hold. -/
def xin (c : Dev nD) : (cc0_stg0_0 : Ref sig .tc).ty.Contents (Elt F) :=
  (win0_0.blk (0 : Fin 1)).view.read (Elt F) ((s₀ m ρ).mem ((c : Thread nD τ).loc main_arg0))
def final (X : Dev nD → (cc0_stg0_0 : Ref sig .tc).ty.Contents (Elt F)) (c : Dev nD) : (cc0_stg1_0 : Ref sig .tc).ty.Contents (Elt F) :=
  fun i : S2048x1024.Idx => if (i 0).val < 1024 then V X .a 6 c i else V X .b 6 c i

theorem out_final (X : Dev nD → (cc0_stg0_0 : Ref sig .tc).ty.Contents (Elt F)) (c : Dev nD) : outH X .a 6 6 c ⊢ (oRes c (final X c) : sProp 𝕄) := by
  unfold outH
  iintro ⟨%g, %hg, H⟩
  have e : g = final X c := by
    funext i
    have hi : (i 0).val < 2048 := (i 0).isLt
    show g i = if (i 0).val < 1024 then V X .a 6 c i else V X .b 6 c i
    by_cases h : (i 0).val < 1024
    · rw [if_pos h]
      refine hg.1 i ?_
      unfold inReg inRows
      have e1 : regS .a 6 c.val = 0 := rfl
      have e2 : regN 6 = 1024 := rfl
      rw [e1, e2]; omega
    · rw [if_neg h]
      refine hg.2 i ?_
      unfold inReg inRows
      have e1 : regS (oth .a) 6 c.val = 1024 := rfl
      have e2 : regN 6 = 1024 := rfl
      rw [e1, e2]; omega
  subst e
  iexact H

/-! ## The pipeline's data -/

/-- A device's transfer buffers, whole. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem scr_open (c : Dev nD) : (scr c : sProp 𝕄)
    ⊢ iprop((sendAll c .a ∗ sendAll c .b) ∗ (sepL [0, 1, 2] (fun j => slotAny (recvM .a) c j) ∗ sepL [0, 1, 2] (fun j => slotAny (recvM .b) c j))) := by
  unfold scr sendAll
  iintro ⟨H0, H1, H2, H3⟩
  isplitl [H0 H2]
  · isplitl [H0]
    · iapply (slots_split (sendM .a) (View.set_whole _) c); iexact H0
    iapply (slots_split (sendM .b) (View.set_whole _) c); iexact H2
  isplitl [H1]
  · iapply (slots_split (recvM .a) (View.set_whole _) c); iexact H1
  iapply (slots_split (recvM .b) (View.set_whole _) c); iexact H3

theorem scr_shut (c : Dev nD) :
    iprop((sendAll c .a ∗ sendAll c .b) ∗ (sepL [0, 1, 2] (fun j => slotAny (recvM .a) c j) ∗ sepL [0, 1, 2] (fun j => slotAny (recvM .b) c j)))
      ⊢ (scr c : sProp 𝕄) := by
  unfold scr sendAll
  iintro ⟨⟨H0, H2⟩, H1, H3⟩
  isplitl [H0]; · iapply (slots_join (sendM .a) (View.set_whole _) c); iexact H0
  isplitl [H1]; · iapply (slots_join (recvM .a) (View.set_whole _) c); iexact H1
  isplitl [H2]; · iapply (slots_join (sendM .b) (View.set_whole _) c); iexact H2
  iapply (slots_join (recvM .b) (View.set_whole _) c); iexact H3

/-- What a device holds for itself alone: its positions, what it pays with, its credits. -/
def linear (c : Dev nD) : sProp 𝕄 := iprop(sepL allK (fun k => atPos ER (cell c k) 0 ∅ 0) ∗ sepL payL (tok c))

def Φ₀ (c : Dev nD) : sProp 𝕄 := iprop((∃ K, Recs (xin m ρ) K) ∗ linear c ∗ sepL payL (inc c) ∗ scr c)
def Φ₁ (c : Dev nD) : sProp 𝕄 := iprop(sepL allK (fun k => semVal (cell c k) 0) ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m ρ c
    | ⟨1, _⟩ => final (xin m ρ) c
  Φ t := match t with
    | ⟨0, _⟩ => Φ₀ m ρ c
    | ⟨_ + 1, _⟩ => Φ₁ c
  q _ := fullShare
  owed t := match t with
    | ⟨0, _⟩ => dues payL c
    | ⟨_ + 1, _⟩ => 0

omit [FloatOps F] in
theorem owns_stg (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt 0 t0_0.succ ∗ stg c cc0_stg0_0 (xin m ρ c) ∗ stg c cc0_stg1_0 (final (xin m ρ) c))

/-! ## The cells closed -/

theorem close_cells (X : Dev nD → (cc0_stg0_0 : Ref sig .tc).ty.Contents (Elt F)) (K : Dev nD × CK → ℕ) (c : Dev nD) :
    ∀ l : List CK, iprop(Recs X K ∗ sepL l fun k => atPos ER (cell c k) (lastR k) ∅ 0) ⊢ (|={Set.univ}=> sepL l fun k => semVal (cell c k) 0 : sProp 𝕄)
  | [] => by
    show iprop(Recs X K ∗ emp) ⊢ (|={Set.univ}=> emp : sProp 𝕄)
    iintro -
    imodintro
    iempintro
  | k :: l => by
    show iprop(Recs X K ∗ atPos ER (cell c k) (lastR k) ∅ 0 ∗ sepL l fun k => atPos ER (cell c k) (lastR k) ∅ 0)
      ⊢ (|={Set.univ}=> iprop(semVal (cell c k) 0 ∗ sepL l fun k => semVal (cell c k) 0) : sProp 𝕄)
    iintro ⟨#HR, Hk, Hl⟩
    imod (Rounds.cell_close ER (Rd X) (Set.mem_univ (K (c, k))) (fun h => h) (R := lastR k) (duties_later X c k)) $$ [Hk] with Hz
    · isplitr; · iapply (Recs_inv X K c k); iexact HR
      iexact Hk
    imod (close_cells X K c l) $$ [Hl] with Hzs
    · isplitr; · iexact HR
      iexact Hl
    imodintro
    isplitl [Hz]; · iexact Hz
    iexact Hzs

/-! ## The body -/

theorem wp_done (c : Dev nD) (Q : PUnit → sProp 𝕄) : iprop(|={Set.univ}=> Q ⟨⟩) ⊢ WP c Q (Prog.ret ⟨⟩) := by
  unfold WP
  rw [wp_ret]

theorem sound_body (c : Dev nD) :
    bodyPre m ρ c ⊢ WP c (fun _ => bodyPost m ρ c) (eff .deviceId fun d => prog (raw d)) := by
  unfold bodyPre Φ₀ linear WP eff
  rw [wp_deviceId]
  iintro ⟨⟨⟨%K, #HR⟩, ⟨Hat, Ht⟩, Hi, Hscr⟩, Ho, ⟨%d0, %g0, %hg0, Hx⟩, ⟨%d1, %g1, %hg1, Hout⟩⟩
  have hx : g0 = xin m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = dues payL c from rfl]
  ihave Hscr := scr_open c $$ Hscr
  icases Hscr with ⟨Hs, Hr⟩
  iapply (wp_prog (xin m ρ) K c (fun _ => bodyPost m ρ c) (raw c) (good_raw c)) $$ [Hx Hout Hs Hr Hat Ht Hi HO]
  · isplitr; · iexact HR
    unfold bodyIn owesL xRes oRes
    isplitl [Hx]; · iexact Hx
    isplitl [Hout]; · iexists g1; iexact Hout
    isplitl [Hs]; · iexact Hs
    isplitl [Hr]; · iexact Hr
    isplitl [Hat]; · iexact Hat
    isplitl [Ht]; · iexact Ht
    isplitl [Hi]; · iexact Hi
    iexists W
    iexact HO
  unfold bodyOut owesL
  iintro ⟨Hx, Ho, Hs, Hr, Hat, ⟨%W', HO⟩⟩
  iapply (wp_done c (fun _ => bodyPost m ρ c))
  imod (close_cells (xin m ρ) K c allK) $$ [Hat] with Hz
  · isplitr; · iexact HR
    iexact Hat
  imodintro
  ihave Ho := out_final (xin m ρ) c $$ Ho
  ihave Hscr := scr_shut c $$ [Hs Hr]
  · isplitl [Hs]; · iexact Hs
    iexact Hr
  unfold xRes oRes bodyPost Φ₁ Dat.owesAt Pipeline.owesWithin
  rw [show (dats m ρ 0 c).owed t0_0.succ = 0 from rfl]
  isplitl [Hz Hscr]
  · isplitl [Hz]; · iexact Hz
    iexact Hscr
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 100000 in
set_option maxHeartbeats 2000000 in
/-- The body's obligation on a device. -/
theorem body_obligation (c : Dev nD) : BodyObligation (dats (F := F) m ρ 0 c) (defs₀ (F := F)) 𝒱₀ 0 Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_stg]
  show bodyPre m ρ c ⊢ WP c (fun _ => bodyPost m ρ c)
    (cc0_body xM (Memref.isWhole_whole _) oM (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 cc0_scratch8 cc0_scratch9)
  rw [body_eq]
  exact sound_body m ρ c

end Cert.KernelIdeal.Own

end
-- ==== Proof.Ideal.Launch.lean ====
/-
The launch: credits, tokens and ghost state.
-/
module

public import proofs.«01_k».proof.Proof.Ideal.Region
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The credits of the launch -/

theorem dst_eq (u : Pay) (d : Dev nD) : u.dst d = mateE u.ax' u.slot d := rfl

omit [FloatOps F] in
theorem due_credit (u : Pay) (c : Dev nD) :
    tallyOn (cell c u.at') (launchCredit (Pipeline.owing u.due) 0 (cell c u.at')) = (tallyAt (cell c u.at') u.lev u.amt : CellTallies nD τ sig ℕ) := by
  unfold tallyAt
  refine congrArg _ (Finsupp.ext fun i => ?_)
  rw [Pipeline.launchCredit_owing]
  have e : (∑ d : Dev nD, u.due d (cell c u.at') i) = ∑ d : Dev nD, (tallyAt (cell d u.at') u.lev u.amt : CellTallies nD τ sig ℕ) (cell c u.at') i :=
    Equiv.sum_comp (mateE u.ax' u.slot) fun d => (tallyAt (cell d u.at') u.lev u.amt : CellTallies nD τ sig ℕ) (cell c u.at') i
  rw [e, Finset.sum_eq_single c]
  · unfold tallyAt; rw [tallyOn_self]
  · intro d _ hd
    rw [tallyAt_ne_cell fun h => hd (congrArg (fun g : GSem nD τ sig => g.1.1) h).symm]
    rfl
  · intro h; exact absurd (Finset.mem_univ c) h

theorem due_cred (u : Pay) (c : Dev nD) : (Pipeline.launchCred u.due c : sProp 𝕄) ⊢ inc c u := by
  refine (Pipeline.launchCred_elim u.due c (semOf u.at')).trans ?_
  unfold inc
  rw [← due_credit u c]

theorem dues_cred (c : Dev nD) : ∀ l : List Pay, (Pipeline.launchCred (dues l) c : sProp 𝕄) ⊢ sepL l (inc c)
  | [] => by
    show (Pipeline.launchCred (fun _ : Dev nD => (0 : CellTallies nD τ sig ℕ)) c : sProp 𝕄) ⊢ iprop(emp)
    rw [Pipeline.launchCred_zero]
  | u :: l => by
    show (Pipeline.launchCred (fun d => dues l d + u.due d) c : sProp 𝕄) ⊢ iprop(inc c u ∗ sepL l (inc c))
    rw [Pipeline.launchCred_add (dues l) u.due c]
    iintro ⟨Hl, Hu⟩
    isplitl [Hu]
    · iapply (due_cred u c); iexact Hu
    iapply (dues_cred c l); iexact Hl

/-! ## The tokens -/

/-- The duties a payment discharges, each as cell, round and name: at the payee's cell, and at the payer's own. -/
def dutyAt : Pay → List (CK × ℕ × D)
  | .grant h P j => [(gcell h P, 0, (h, bk (ax h P.val) j))]
  | .copy h P j => [(.rs h j, rd j P.val, d0), (.ss h j, rd j P.val, d0)]
def dutyL : List (CK × ℕ × D) := payL.flatMap dutyAt

set_option maxRecDepth 100000 in
theorem dutyL_nodup : dutyL.Nodup := by decide +kernel

def dutyTokAt (c : Dev nD) (t : CK × ℕ × D) : sProp 𝕄 := dutyTok ER (cell c t.1) t.2.1 t.2.2

def tokOf (ci : Dev nD × Fin dutyL.length) : GSem nD τ sig × ℕ × D := (cell ci.1 (dutyL.get ci.2).1, (dutyL.get ci.2).2.1, (dutyL.get ci.2).2.2)
theorem tokOf_injective : Function.Injective tokOf := by
  rintro ⟨c, i⟩ ⟨c', i'⟩ h
  have h1 : (c, (dutyL.get i).1) = (c', (dutyL.get i').1) := kcell_injective (congrArg Prod.fst h)
  have h2 : (dutyL.get i).2 = (dutyL.get i').2 := congrArg (fun x : GSem nD τ sig × ℕ × D => x.2) h
  obtain ⟨hc, hk⟩ := Prod.mk.inj h1
  have hi : i = i' := List.nodup_iff_injective_get.mp dutyL_nodup (Prod.ext hk h2)
  rw [hc, hi]

def allCells : Finset (GSem nD τ sig) := Finset.univ.map ⟨kcell, kcell_injective⟩
def allToks : Finset (GSem nD τ sig × ℕ × D) := Finset.univ.map ⟨tokOf, tokOf_injective⟩

theorem sepL_flatMap {α β : Type} (f : α → List β) (Φ : β → sProp 𝕄) : ∀ l : List α, sepL (l.flatMap f) Φ ⊢ sepL l fun a => sepL (f a) Φ
  | [] => BI.Entails.refl _
  | a :: l => by
    rw [List.flatMap_cons]
    show sepL (f a ++ l.flatMap f) Φ ⊢ iprop(sepL (f a) Φ ∗ sepL l fun a => sepL (f a) Φ)
    exact (sepL_append Φ _ _).trans (BI.sep_mono (BI.Entails.refl _) (sepL_flatMap f Φ l))

theorem bigSep_sepL {α : Type} (Φ : Dev nD → α → sProp 𝕄) : ∀ l : List α,
    (bigSep Finset.univ fun c => sepL l (Φ c)) = sepL l fun a => bigSep Finset.univ fun c => Φ c a
  | [] => by
    show (bigSep Finset.univ fun _ : Dev nD => (iprop(emp) : sProp 𝕄)) = iprop(emp)
    exact BI.bigSep_emp_const _
  | a :: l => by
    show (bigSep Finset.univ fun c => iprop(Φ c a ∗ sepL l (Φ c))) = iprop((bigSep Finset.univ fun c => Φ c a) ∗ sepL l fun a => bigSep Finset.univ fun c => Φ c a)
    rw [bigSep_sep', bigSep_sepL Φ l]

/-- The duties of a device's own cells, by payment. -/
theorem toks_one (u : Pay) : (bigSep Finset.univ fun c : Dev nD => sepL (dutyAt u) (dutyTokAt c)) ⊢ (bigSep Finset.univ fun c : Dev nD => tok c u : sProp 𝕄) := by
  cases u with
  | grant h P j =>
    have e := bigSep_univ_equiv (mateE (ax h P.val) j) fun c : Dev nD => sepL (dutyAt (.grant h P j)) (dutyTokAt (F := F) c)
    rw [e]
    refine bigSep_mono fun c _ => ?_
    have e' : dutyTokAt (F := F) (mateE (ax h P.val) j c) (gcell h P, 0, (h, bk (ax h P.val) j)) = tok c (.grant h P j) := rfl
    show iprop(dutyTokAt (mateE (ax h P.val) j c) (gcell h P, 0, (h, bk (ax h P.val) j)) ∗ emp) ⊢ tok c (.grant h P j)
    rw [e']
    iintro ⟨H, -⟩
    iexact H
  | copy h P j =>
    have e1 : (bigSep Finset.univ fun c : Dev nD => sepL (dutyAt (.copy h P j)) (dutyTokAt (F := F) c))
        ⊢ bigSep Finset.univ fun c : Dev nD => iprop(dutyTokAt (F := F) c (.rs h j, rd j P.val, d0) ∗ dutyTokAt c (.ss h j, rd j P.val, d0)) :=
      bigSep_mono fun c _ => by
        show iprop(dutyTokAt (F := F) c (.rs h j, rd j P.val, d0) ∗ dutyTokAt c (.ss h j, rd j P.val, d0) ∗ emp) ⊢ _
        iintro ⟨H1, H2, -⟩
        isplitl [H1]; · iexact H1
        iexact H2
    refine e1.trans ?_
    rw [bigSep_sep', bigSep_univ_equiv (mateE (ax h P.val) j) fun c : Dev nD => dutyTokAt (F := F) c (.rs h j, rd j P.val, d0), ← bigSep_sep']
    exact bigSep_mono fun c _ => BI.Entails.refl _

/-- The duties dealt to the devices that pay them. -/
theorem toks_dealt : (bigSep Finset.univ fun c : Dev nD => sepL dutyL (dutyTokAt c)) ⊢ (bigSep Finset.univ fun c : Dev nD => sepL payL (tok c) : sProp 𝕄) := by
  refine (bigSep_mono fun c _ => sepL_flatMap dutyAt (dutyTokAt c) payL).trans ?_
  rw [bigSep_sepL (fun c u => sepL (dutyAt u) (dutyTokAt (F := F) c)) payL, bigSep_sepL (fun c u => tok (F := F) c u) payL]
  exact sepL_mono payL fun u _ => toks_one u

/-! ## The ghost state -/

def u₀ : UU := (initOf (Pipeline.cells cfgs cellOf_inj) (Pipeline.launchToks cfgs cellOf_inj), initOf allCells allToks)

/-- What the launch element deals a device. -/
def G (c : Dev nD) : sProp 𝕄 :=
  iprop((bigSep Finset.univ fun k : CK => roundState ER (Rd (xin m ρ)) (kcell (c, k)) 0)
    ∗ ((bigSep Finset.univ fun k : CK => atPos ER (kcell (c, k)) 0 ∅ 0) ∗ bigSep Finset.univ fun k : CK => reached ER (kcell (c, k)) 0)
    ∗ sepL dutyL (dutyTokAt c))

theorem duties_listed (c : Dev nD) : (bigSep Finset.univ fun i : Fin dutyL.length => dutyTokAt c (dutyL.get i)) = (sepL dutyL (dutyTokAt c) : sProp 𝕄) := by
  rw [show (Finset.univ : Finset (Fin dutyL.length)) = (List.finRange dutyL.length).toFinset from (List.toFinset_finRange _).symm,
    bigSep_toFinset _ _ (List.nodup_finRange _), ← sepL_map dutyL.get (dutyTokAt c) (List.finRange dutyL.length), List.map_get_finRange]

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => sepL dutyL (dutyTokAt c) := by
    unfold allToks; rw [bigSep_map, bigSep_univ_prod]
    exact bigSep_congr fun c _ => duties_listed c
  have hXe (Φ : GSem nD τ sig → sProp 𝕄) : bigSep allCells Φ ⊢ bigSep Finset.univ fun c : Dev nD => bigSep Finset.univ fun k : CK => Φ (kcell (c, k)) := by
    rw [hX]
  have hTe : bigSep allToks (fun x => (dutyTok ER x.1 x.2.1 x.2.2 : sProp 𝕄)) ⊢ bigSep Finset.univ fun c : Dev nD => sepL dutyL (dutyTokAt c) := by rw [hT]
  iintro H
  imod (Rounds.fund ER (Rd (xin m ρ)) allCells allToks) $$ H with ⟨Hst, Hr, Hat, Ht⟩
  imodintro
  ihave Hst := hXe (fun g => roundState ER (Rd (xin m ρ)) g 0) $$ Hst
  ihave Hr := hXe (fun g => reached ER g 0) $$ Hr
  ihave Hat := hXe (fun g => atPos ER g 0 ∅ 0) $$ Hat
  ihave Ht := hTe $$ Ht
  unfold G
  simp only [bigSep_sep']
  isplitl [Hst]; · iexact Hst
  isplitl [Hat Hr]
  · isplitl [Hat]; · iexact Hat
    iexact Hr
  iexact Ht

/-! ## The semaphores -/

/-- The kernel's own semaphores. -/
abbrev osem : Fin 24 → SemLoc sig := fun i => semOf (ownK.get i)

set_option maxRecDepth 100000 in
theorem ownSemFacts : Pipeline.OwnSemFacts cfg0.spec osem := by decide

theorem own_list : ownK = (List.finRange 24).map (fun i : Fin 24 => ownK.get i) := by decide

theorem bigSepL_sepL {α : Type} (Φ : α → sProp 𝕄) : ∀ l : List α, bigSepL l Φ = sepL l Φ
  | [] => rfl
  | a :: l => by
    rw [bigSepL_cons, bigSepL_sepL Φ l]; rfl

theorem ownSems0_eq (c : Dev nD) : (Pipeline.ownSems0 (Ix := ℕ) (Name := ℕ) (U := UU) (Lvl := ℕ) (Val := Elt F) (τ := τ) osem c : sProp 𝕄)
    = sepL ownK fun k => semVal (cell c k) 0 := by
  rw [Pipeline.ownSems0_eq_of_list c osem (List.finRange 24) (by decide) (by decide), bigSepL_sepL]
  refine (sepL_map (fun i : Fin 24 => ownK.get i) (fun k => (semVal (cell c k) 0 : sProp 𝕄)) (List.finRange 24)).symm.trans ?_
  rw [← own_list]

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem univ_all : (Finset.univ : Finset CK) = allK.toFinset := rfl
theorem allK_nodup : allK.Nodup := by decide

theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, univ_all, bigSep_toFinset _ _ allK_nodup]
  show _ ⊢ iprop(semVal (cell c .bar) 0 ∗ sepL ownK fun k => semVal (cell c k) 0)
  iintro ⟨H1, H2⟩
  isplitl [H2]; · iexact H2
  iexact H1

/-! ## The cells allocated -/

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (xin m ρ)) κ (kcell (c, k))))
          ∗ ((bigSep Finset.univ fun k : CK => atPos ER (kcell (c, k)) 0 ∅ 0) ∗ bigSep Finset.univ fun k : CK => reached ER (kcell (c, k)) 0)
          ∗ sepL dutyL (dutyTokAt c)) := by
  unfold G
  iintro ⟨Hos, Hus, Hst, Hat, Ht⟩
  ihave Hv := sems0 c $$ [Hos Hus]
  · isplitl [Hos]; · iexact Hos
    iexact Hus
  imod (show iprop((bigSep Finset.univ fun k : CK => semVal (kcell (c, k)) 0) ∗ bigSep Finset.univ fun k : CK => roundState ER (Rd (xin m ρ)) (kcell (c, k)) 0)
      ⊢ (|={Set.univ}=> bigSep Finset.univ fun k : CK => iprop(∃ κ : ℕ, cellInv ER (Rd (xin m ρ)) κ (kcell (c, k))) : sProp 𝕄) from by
        rw [← bigSep_sep']
        exact (bigSep_mono fun k _ => (Rounds.body_intro ER (Rd (xin m ρ)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Ht

/-- What all devices share, but for the levels. -/
def shared (K : Dev nD × CK → ℕ) : sProp 𝕄 :=
  iprop((bigSep Finset.univ fun ck : Dev nD × CK => cellInv ER (Rd (xin m ρ)) (K ck) (kcell ck)) ∗ bigSep Finset.univ fun ck : Dev nD × CK => reached ER (kcell ck) 0)
instance shared_persistent (K : Dev nD × CK → ℕ) : BI.Persistent (shared (F := F) m ρ K) := by unfold shared; infer_instance

/-- What the global step makes for a device. -/
def G' (c : Dev nD) : sProp 𝕄 := iprop((∃ K, shared m ρ K) ∗ linear c)

theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  iintro ⟨#HR, H⟩
  ihave HRs := BI.bigSep_of_persistent (Finset.univ : Finset (Dev nD)) R $$ HR
  iapply (show iprop((bigSep Finset.univ fun _ : Dev nD => R) ∗ bigSep Finset.univ Φ) ⊢ bigSep Finset.univ Ψ from by
    rw [← bigSep_sep']; exact bigSep_mono fun c _ => h c)
  isplitl [HRs]; · iexact HRs
  iexact H

theorem regroup :
    (bigSep Finset.univ fun c : Dev nD => iprop((bigSep Finset.univ fun k : CK => iprop(∃ κ : ℕ, cellInv ER (Rd (xin m ρ)) κ (kcell (c, k))))
          ∗ ((bigSep Finset.univ fun k : CK => atPos ER (kcell (c, k)) 0 ∅ 0) ∗ bigSep Finset.univ fun k : CK => reached ER (kcell (c, k)) 0)
          ∗ sepL dutyL (dutyTokAt c)) : sProp 𝕄)
      ⊢ bigSep Finset.univ (G' m ρ) := by
  rw [bigSep_sep', bigSep_sep', bigSep_sep', ← bigSep_univ_prod (fun ck : Dev nD × CK => iprop(∃ κ : ℕ, cellInv ER (Rd (xin m ρ)) κ (kcell ck))),
    ← bigSep_univ_prod (fun ck : Dev nD × CK => (reached ER (kcell ck) 0 : sProp 𝕄))]
  iintro ⟨HI, ⟨Hat, #HR⟩, Ht⟩
  ihave HK := BI.bigSep_exists_pi Finset.univ (fun (ck : Dev nD × CK) (κ : ℕ) => (cellInv ER (Rd (xin m ρ)) κ (kcell ck) : sProp 𝕄)) $$ HI
  icases HK with ⟨%K, #HI⟩
  ihave Ht := toks_dealt $$ Ht
  iapply (deal (R := shared m ρ K)
    (Φ := fun c => iprop((bigSep Finset.univ fun k : CK => atPos ER (kcell (c, k)) 0 ∅ 0) ∗ sepL payL (tok c))) fun c => by
    unfold G' linear
    rw [univ_all, bigSep_toFinset (fun k : CK => (atPos ER (kcell (c, k)) 0 ∅ 0 : sProp 𝕄)) _ allK_nodup]
    iintro ⟨#HR, Hat, Ht⟩
    isplitr; · iexists K; iexact HR
    isplitl [Hat]; · iexact Hat
    iexact Ht)
  isplitr
  · unfold shared; isplitl; · iexact HI
    iexact HR
  · iapply (show iprop((bigSep Finset.univ fun c : Dev nD => bigSep Finset.univ fun k : CK => atPos ER (kcell (c, k)) 0 ∅ 0) ∗ bigSep Finset.univ fun c : Dev nD => sepL payL (tok c))
        ⊢ (bigSep Finset.univ fun c : Dev nD => iprop((bigSep Finset.univ fun k : CK => atPos ER (kcell (c, k)) 0 ∅ 0) ∗ sepL payL (tok c)) : sProp 𝕄) from by
      rw [← bigSep_sep'])
    isplitl [Hat]; · iexact Hat
    iexact Ht

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The sides of the launch -/

/-- What a device's body starts from, but for its buffers. -/
def begun (c : Dev nD) : sProp 𝕄 := iprop((∃ K, Recs (xin m ρ) K) ∗ linear c ∗ sepL payL (inc c))

theorem start_intro (c : Dev nD) :
    iprop(Pipeline.unscopedRestP Pipeline.Prefetch.none cfg0.spec c (fun b => m ((c : Thread nD τ).loc b)) ∗ levAts L lv
        ∗ Pipeline.launchCred (dues payL) c ∗ prngReg c (ρ c) ∗ G' m ρ c)
      ⊢ |={Set.univ}=> iprop(begun m ρ c ∗ emp) := by
  iintro ⟨-, Hlev, Hcr, -, HG⟩
  ihave Hc := dues_cred c payL $$ Hcr
  imodintro
  unfold begun G' shared Recs Lev
  icases HG with ⟨⟨%K, HI, HR⟩, Hl⟩
  isplitl
  · isplitl [HI HR Hlev]
    · iexists K
      isplitl [HI]; · iexact HI
      isplitl [HR]; · iexact HR
      iexact Hlev
    isplitl [Hl]; · iexact Hl
    iexact Hc
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ begun scr
  iintro ⟨⟨HK, Hl, Hc⟩, -, Hr⟩
  isplitl [HK]; · iexact HK
  isplitl [Hl]; · iexact Hl
  isplitl [Hc]; · iexact Hc
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  show iprop((semVal (cell c .bar) 0 ∗ sepL ownK fun k => semVal (cell c k) 0) ∗ _) ⊢ _
  iintro ⟨⟨Hb, Ho⟩, Hr⟩
  isplitl [Hb]; · iexact Hb
  isplitl [Ho]; · iexact Ho
  iexact Hr

theorem above_all : Above 0 payL := by decide

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) payL above_all
    · exact mayWait c _ 0 (by decide) [] (by decide)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
set_option maxHeartbeats 2000000 in
/-- Every weakly fair run of the program ends, with the devices' blocks at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := dues payL) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The input's block is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Own

end
-- ==== Proof.Ideal.Total.lean ====
/-
The result in exact arithmetic: the sum of all devices' arguments.
-/
module

public import proofs.«01_k».proof.Proof.Ideal.Launch
public import Idealize.ShloMosaic.PureOps.Ideal
public import Idealize.ShloMosaic.Lib.IdealHost

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S2048x1024.Idx → Elt Ideal .bf16)

/-- A device's element as a number. -/
def num (d : Dev nD) (i : S2048x1024.Idx) : EReal := X d i

/-- The devices whose values meet at `c` in phase `P`. -/
def line (h : Half) (P : ℕ) (c : Dev nD) : List (Dev nD) := c :: (sl P).map fun j => mate (ax h P) (bk (ax h P) j) c

theorem sum_four (a b c d : EReal) : ((a + b) + c) + d = [a, b, c, d].sum := by
  simp only [List.sum_cons, List.sum_nil, add_zero, add_assoc]

theorem sum_two (a b : EReal) : a + b = [a, b].sum := by simp only [List.sum_cons, List.sum_nil, add_zero]

/-- In exact arithmetic an adding phase sums over the devices that meet. -/
theorem V_line (h : Half) (P : Fin 3) (c : Dev nD) (i : S2048x1024.Idx) :
    (V X h (P.val + 1) c i : EReal) = ((line h P.val c).map fun d => (V X h P.val d i : EReal)).sum := by
  match P with
  | 0 => exact sum_four _ _ _ _
  | 1 => exact sum_four _ _ _ _
  | 2 => exact sum_two _ _

/-- Everyone whose value has reached `c` after the adding phases. -/
def everyone (h : Half) (c : Dev nD) : List (Dev nD) := (line h 2 c).flatMap fun d => (line h 1 d).flatMap fun e => line h 0 e

theorem everyone_perm : ∀ (h : Half) (c : Dev nD), (everyone h c).Perm (List.finRange 32) := by decide +kernel

theorem sum_flat {α β : Type} (l : List α) (k : α → List β) (f : β → EReal) :
    (l.map fun a => ((k a).map f).sum).sum = ((l.flatMap k).map f).sum := by
  induction l with
  | nil => rfl
  | cons a l ih => rw [List.map_cons, List.sum_cons, ih, List.flatMap_cons, List.map_append, List.sum_append]

/-- After the adding phases every device holds the sum of all. -/
theorem V_three (h : Half) (c : Dev nD) (i : S2048x1024.Idx) : (V X h 3 c i : EReal) = ∑ d : Fin 32, num X d i := by
  have e1 : ∀ e : Dev nD, (V X h 1 e i : EReal) = ((line h 0 e).map fun g => num X g i).sum := fun e => V_line X h 0 e i
  have e2 : ∀ e : Dev nD, (V X h 2 e i : EReal) = (((line h 1 e).flatMap fun d => line h 0 d).map fun g => num X g i).sum := fun e => by
    rw [← sum_flat]; simp only [← e1]; exact V_line X h 1 e i
  have e3 : (V X h 3 c i : EReal) = ((everyone h c).map fun g => num X g i).sum := by
    unfold everyone
    rw [← sum_flat]; simp only [← e2]; exact V_line X h 2 c i
  rw [e3, ((everyone_perm h c).map fun g => num X g i).sum_eq]
  exact (Fin.sum_univ_def _).symm

theorem fold_same {α β : Type} (l : List α) (f : β → α → β) (b : β) (hf : ∀ a ∈ l, f b a = b) : l.foldl f b = b := by
  induction l with
  | nil => rfl
  | cons a l ih =>
    rw [List.foldl_cons, hf a List.mem_cons_self]
    exact ih fun a' ha => hf a' (List.mem_cons_of_mem _ ha)

/-- A copying phase moves equal values about. -/
theorem V_copy (h : Half) (P : ℕ) (hP : 3 ≤ P) (i : S2048x1024.Idx) (T : EReal) (hT : ∀ d : Dev nD, (V X h P d i : EReal) = T) (c : Dev nD) :
    (V X h (P + 1) c i : EReal) = T := by
  have e : V X h (P + 1) c i = V X h P c i := by
    refine fold_same _ _ _ fun j _ => ?_
    unfold upd
    rw [if_neg (by omega)]
    split
    · obtain ⟨p, rfl⟩ : ∃ p, P = p + 1 := ⟨P - 1, by omega⟩
      exact (hT _).trans (hT c).symm
    · rfl
  exact e.trans (hT c)

/-- In exact arithmetic the result is the sum of the devices' arguments. -/
theorem final_sum (c : Dev nD) (i : S2048x1024.Idx) : (final X c i : EReal) = ∑ d : Fin 32, num X d i := by
  have v : ∀ h : Half, (V X h 6 c i : EReal) = ∑ d : Fin 32, num X d i := fun h =>
    V_copy X h 5 (by omega) i _ (V_copy X h 4 (by omega) i _ (V_copy X h 3 (by omega) i _ fun d => V_three X h d i)) c
  show (if (i 0).val < 1024 then V X .a 6 c i else V X .b 6 c i) = _
  split
  · exact v .a
  · exact v .b

end Cert.KernelIdeal.Own

end
-- ==== Proof.Ideal.Value.lean ====
/-
The reference's result as a sum over the devices, and the kernel's result array.
-/
module

public import proofs.«01_k».proof.Proof.Ideal.Total
public import proofs.«01_k».proof.Proof.Gen.ReferenceIdeal.Run
public import Idealize.ShloMosaic.Lib.Layout

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The reference's result -/

section Ref
open Cert.ReferenceIdeal (S65536x1024 S2x4x4x2048x1024)

theorem tiles : Layout.Tiles S2048x1024 S65536x1024 0 32 := by decide

/-- Device `d`'s element in the array split along the mesh's axes. -/
def cut (d : Fin 32) (j : S2048x1024.Idx) : S2x4x4x2048x1024.Idx := fun a => match a with
  | ⟨0, _⟩ => (⟨d.val / 16, by have := d.isLt; omega⟩ : Fin 2)
  | ⟨1, _⟩ => (⟨d.val / 4 % 4, by omega⟩ : Fin 4)
  | ⟨2, _⟩ => (⟨d.val % 4, by omega⟩ : Fin 4)
  | ⟨3, _⟩ => (⟨(j 0).val, (j 0).isLt⟩ : Fin 2048)
  | ⟨4, _⟩ => (⟨(j 1).val, (j 1).isLt⟩ : Fin 1024)

theorem cut_at {α : Type} (A : S65536x1024.Idx → α) (h : S65536x1024.ShapeCasts S2x4x4x2048x1024) (d : Fin 32) (j : S2048x1024.Idx) :
    shapeCast S2x4x4x2048x1024 A h (cut d j) = Layout.block S2048x1024 S65536x1024 0 32 d A tiles j := by
  refine shapeCast_apply A h (cut d j) (tiles.idx d j) ?_
  have hd := d.isLt
  rw [Shape.rowMajor_val_two, Shape.rowMajor_val_five]
  show (d.val * 2048 + (j 0).val) * 1024 + (j 1).val
    = (((d.val / 16 * 4 + d.val / 4 % 4) * 4 + d.val % 4) * 2048 + (j 0).val) * 1024 + (j 1).val
  omega

theorem cut_drop (h : S2x4x4x2048x1024.ReducesTo [0, 1, 2] S2048x1024) (d : Fin 32) (j : S2048x1024.Idx) : h.drop (cut d j) = j := by
  funext b
  match b with
  | ⟨0, _⟩ => rfl
  | ⟨1, _⟩ => rfl

theorem cut_all (h : S2x4x4x2048x1024.ReducesTo [0, 1, 2] S2048x1024) (i : S2x4x4x2048x1024.Idx) (j : S2048x1024.Idx) (hi : h.drop i = j) :
    cut ⟨((i 0).val * 4 + (i 1).val) * 4 + (i 2).val, by
      have h0 : (i 0).val < 2 := (i 0).isLt
      have h1 : (i 1).val < 4 := (i 1).isLt
      have h2 : (i 2).val < 4 := (i 2).isLt
      omega⟩ j = i := by
  subst hi
  have h0 : (i 0).val < 2 := (i 0).isLt
  have h1 : (i 1).val < 4 := (i 1).isLt
  have h2 : (i 2).val < 4 := (i 2).isLt
  funext a
  apply Fin.ext
  match a with
  | ⟨0, _⟩ => show (((i 0).val * 4 + (i 1).val) * 4 + (i 2).val) / 16 = (i 0).val; omega
  | ⟨1, _⟩ => show (((i 0).val * 4 + (i 1).val) * 4 + (i 2).val) / 4 % 4 = (i 1).val; omega
  | ⟨2, _⟩ => show (((i 0).val * 4 + (i 1).val) * 4 + (i 2).val) % 4 = (i 2).val; omega
  | ⟨3, _⟩ => rfl
  | ⟨4, _⟩ => rfl

theorem cut_inj (d e : Fin 32) (j : S2048x1024.Idx) (h : cut d j = cut e j) : d = e := by
  have h0 : d.val / 16 = e.val / 16 := congrArg (fun i : S2x4x4x2048x1024.Idx => (i 0).val) h
  have h1 : d.val / 4 % 4 = e.val / 4 % 4 := congrArg (fun i : S2x4x4x2048x1024.Idx => (i 1).val) h
  have h2 : d.val % 4 = e.val % 4 := congrArg (fun i : S2x4x4x2048x1024.Idx => (i 2).val) h
  exact Fin.ext (by omega)

/-- The sum over the three split axes runs over the devices. -/
theorem sum_cut (h : S2x4x4x2048x1024.ReducesTo [0, 1, 2] S2048x1024) (f : S2x4x4x2048x1024.Idx → EReal) (j : S2048x1024.Idx) :
    (∑ i ∈ Finset.univ.filter (fun i => h.drop i = j), f i) = ∑ d : Fin 32, f (cut d j) := by
  symm
  refine Finset.sum_bij (fun d _ => cut d j) (fun d _ => ?_) (fun d _ e _ he => cut_inj d e j he) (fun i hi => ?_) (fun _ _ => rfl)
  · exact Finset.mem_filter.mpr ⟨Finset.mem_univ _, cut_drop h d j⟩
  · exact ⟨_, Finset.mem_univ _, cut_all h i j (Finset.mem_filter.mp hi).2⟩

/-- What the reference computes from the whole argument. -/
def refSum (A : S65536x1024.Idx → Elt Ideal .bf16) (j : S2048x1024.Idx) : EReal :=
  ∑ d : Fin 32, num (fun c => Layout.block S2048x1024 S65536x1024 0 32 c A tiles) d j

theorem ref_sum (X : Dev nD → S2048x1024.Idx → Elt Ideal .bf16) (A : S65536x1024.Idx → Elt Ideal .bf16)
    (h : ∀ c, X c = Layout.block S2048x1024 S65536x1024 0 32 c A tiles) (j : S2048x1024.Idx) : (∑ d : Fin 32, num X d j) = refSum A j := by
  unfold refSum
  rw [show X = _ from funext h]

theorem ref_value (A : S65536x1024.Idx → Elt Ideal .bf16) (hc : S65536x1024.ShapeCasts S2x4x4x2048x1024) (hb) (hr : S2x4x4x2048x1024.ReducesTo [0, 1, 2] S2048x1024) (hu)
    (j : S2048x1024.Idx) :
    (Host.reduceAdd (F := Ideal) (φ := .f32) (extf (F := Ideal) .f32 (shapeCast S2x4x4x2048x1024 A hc : FVec Ideal S2x4x4x2048x1024 .bf16) hb)
      (constant Cert.ReferenceIdeal.S_ .f32 0x00000000#32) hr hu j : EReal) = refSum A j := by
  show Ideal.ofBits .f32 0x00000000#32 + _ = _
  rw [Ideal.ofBits_zero_f32, zero_add]
  refine (sum_cut hr _ j).trans ?_
  exact Finset.sum_congr rfl fun d _ => cut_at A hc d j

end Ref

/-! ## The result's array -/

variable (m : (ℓ : Loc nD τ sig) → Buf (Elt F) ℓ) (ρ : Dev nD → PrngReg)

/-- At the one grid point the result window writes its block. -/
theorem flushed (c : Dev nD) : finalA m ρ c (1 : Fin 2)
    = (win0_1.blk (0 : Fin 1)).view.write (Elt F) ((dats m ρ 0 c).arrAt (1 : Fin 2) 0) (final (xin m ρ) c) Finset.univ :=
  ((dats m ρ 0 c).arrAt_succ (1 : Fin 2) (0 : Fin 1)).trans (if_pos (by decide))

/-- The argument's one block is the whole argument, -/
theorem xin_eq (c : Dev nD) : xin m ρ c = m ((c : Thread nD τ).loc main_arg0) :=
  Memref.read_access_unit_zero (Elt F) main_arg0 (funext fun a => by fin_cases a <;> decide) (fun a => by fin_cases a <;> decide) _

/-- and the result's the whole result. -/
theorem result_eq (c : Dev nD) : finalA m ρ c (1 : Fin 2) = final (xin m ρ) c := by
  have h := View.read_write_univ (Val := Elt F) (v := (win0_1.blk (0 : Fin 1)).view) ((dats m ρ 0 c).arrAt (1 : Fin 2) 0) (final (xin m ρ) c)
  rw [← flushed] at h
  exact (Memref.read_access_unit_zero (Elt F) main_v1 (funext fun a => by fin_cases a <;> decide) (fun a => by fin_cases a <;> decide) _).symm.trans h

end Cert.KernelIdeal.Own

end
-- ==== Proof.lean ====
/-
The claims. Each program of the kernel ends every run with its arguments unchanged and every counter at zero, from the
run proved in Proof/Hard and Proof/Ideal (one text, at the two programs); the reference likewise. In exact arithmetic
every device's result is the reference's: both are the sum of the thirty-two devices' arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Hard.Launch
public import proofs.«01_k».proof.Proof.Ideal.Value

@[expose] public section

noncomputable section

namespace Cert.Proof

open Idealize.ShloMosaic Idealize.SL.Sem Cert.KernelIdeal.Own

theorem frame_rounding : Cert.quiescent_Kernel := fun m ρ _ =>
  (θ_run Cert.Kernel.defs _ _).mono (fun _ h => ⟨fun c => (h.1 c (0 : Fin 2)).trans (Cert.Kernel.Own.finalA_x m ρ c), h.2⟩)
    (Cert.Kernel.Own.run_main (F := Bits) m ρ)

theorem frame_exact : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the sum of all devices' blocks, which is what the reference computes. -/
theorem value : Cert.algebraic_KernelIdeal_ReferenceIdeal := by
  intro m ρ m' ρ' _ hag
  refine ⟨refSum (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c (1 : Fin 2)).trans ?_, (h.1 c (0 : Fin 2)).trans (finalA_x m ρ c)⟩)
      (run_main (F := Ideal) m ρ)
    refine (result_eq (F := Ideal) m ρ c).trans (funext fun j => (final_sum _ c j).trans ?_)
    exact ref_sum _ _ (fun d => (xin_eq (F := Ideal) m ρ d).trans (hag d)) j
  · exact (θ_run Cert.ReferenceIdeal.defs _ _).mono (fun _ h => ⟨(h 0).1.trans (funext fun j => ref_value _ _ _ _ _ j), (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    frame_rounding, frame_exact, frame_reference, trivial, value⟩

end Cert.Proof

end
